-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v57)) (v2 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_v59) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x64x1024 : Shape := ⟨3, ![8, 64, 1024]⟩
abbrev S128x128 : Shape := ⟨2, ![128, 128]⟩
abbrev S128 : Shape := ⟨1, ![128]⟩
abbrev S_ : Shape := ⟨0, ![]⟩

class Facts : Prop where
  bcast_S_S8x64x1024 : S_.BroadcastsInDim S8x64x1024 (![] : Fin 0 → Fin S8x64x1024.rank)
  bcast_S_S128x128 : S_.BroadcastsInDim S128x128 (![] : Fin 0 → Fin S128x128.rank)
  bcast_S_S128 : S_.BroadcastsInDim S128 (![] : Fin 0 → Fin S128.rank)

variable [Facts]

def fn_part1 {F : FTy → Type} [FloatOps F] (main_arg6 : FVec F S128 .f32) (main_v2 : IVec S8x64x1024 1) (main_v5 : IVec S128x128 1) (main_v8 : IVec S128x128 1) (main_v11 : IVec S128x128 1) (main_v13 : IVec S128 1) (main_v15 : IVec S128 1) (main_v16 : FVec F S128 .f32) : IVec S8x64x1024 1 × IVec S128x128 1 × IVec S128x128 1 × IVec S128x128 1 × IVec S128 1 × IVec S128 1 × IVec S128 1 :=
  let main_v17 : IVec S128 1 := cmpf .oge main_arg6 main_v16
  (main_v2, main_v5, main_v8, main_v11, main_v13, main_v15, main_v17)

def fn {F : FTy → Type} [FloatOps F] (main_arg0 : FVec F S8x64x1024 .f32) (main_arg1 : FVec F S128x128 .f32) (main_arg2 : FVec F S128x128 .f32) (main_arg3 : FVec F S128x128 .f32) (main_arg4 : FVec F S128 .f32) (main_arg5 : FVec F S128 .f32) (main_arg6 : FVec F S128 .f32) (main_arg7 : FVec F S128 .f32) (main_arg8 : FVec F S128 .f32) (main_arg9 : FVec F S128 .f32) : IVec S8x64x1024 1 × IVec S128x128 1 × IVec S128x128 1 × IVec S128x128 1 × IVec S128 1 × IVec S128 1 × IVec S128 1 :=
  let main_v0 : FVec F S8x64x1024 .f32 := Host.absf main_arg0
  let main_cst : FVec F S_ .f32 := constant S_ .f32 0x7F800000#32
  let main_v1 : FVec F S8x64x1024 .f32 := broadcastInDim S8x64x1024 ![] bcast_S_S8x64x1024 main_cst
  let main_v2 : IVec S8x64x1024 1 := cmpf .olt main_v0 main_v1
  let main_v3 : FVec F S128x128 .f32 := Host.absf main_arg1
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_cst_3 : FVec F S_ .f32 := constant S_ .f32 0x00000000#32
  let main_v12 : FVec F S128 .f32 := broadcastInDim S128 ![] bcast_S_S128 main_cst_3
  let main_v13 : IVec S128 1 := cmpf .oge main_arg4 main_v12
  let main_cst_4 : FVec F S_ .f32 := constant S_ .f32 0x00000000#32
  let main_v14 : FVec F S128 .f32 := broadcastInDim S128 ![] bcast_S_S128 main_cst_4
  let main_v15 : IVec S128 1 := cmpf .oge main_arg5 main_v14
  let main_cst_5 : FVec F S_ .f32 := constant S_ .f32 0x00000000#32
  let main_v16 : FVec F S128 .f32 := broadcastInDim S128 ![] bcast_S_S128 main_cst_5
  fn_part1 (F := F) main_arg6 main_v2 main_v5 main_v8 main_v11 main_v13 main_v15 main_v16
-- ==== Kernel.lean ====
abbrev S8x64x1024 : Shape := ⟨3, ![8, 64, 1024]⟩
abbrev S128x128 : Shape := ⟨2, ![128, 128]⟩
abbrev S128 : Shape := ⟨1, ![128]⟩
abbrev S3 : Shape := ⟨1, ![3]⟩
abbrev S8x40x1024 : Shape := ⟨3, ![8, 40, 1024]⟩
abbrev S1x64x1024 : Shape := ⟨3, ![1, 64, 1024]⟩
abbrev S1x64x256 : Shape := ⟨3, ![1, 64, 256]⟩
abbrev S1x40x256 : Shape := ⟨3, ![1, 40, 256]⟩
abbrev S256x1024 : Shape := ⟨2, ![256, 1024]⟩
abbrev S64x1024 : Shape := ⟨2, ![64, 1024]⟩
abbrev S64x256 : Shape := ⟨2, ![64, 256]⟩
abbrev S64x1 : Shape := ⟨2, ![64, 1]⟩
abbrev S256x1 : Shape := ⟨2, ![256, 1]⟩
abbrev S1024 : Shape := ⟨1, ![1024]⟩
abbrev S1x1024 : Shape := ⟨2, ![1, 1024]⟩
abbrev S256x256 : Shape := ⟨2, ![256, 256]⟩
abbrev S256 : Shape := ⟨1, ![256]⟩
abbrev S1x256 : Shape := ⟨2, ![1, 256]⟩
abbrev S1x1x256 : Shape := ⟨3, ![1, 1, 256]⟩
abbrev S64x8x1024 : Shape := ⟨3, ![64, 8, 1024]⟩
abbrev S64x8192 : Shape := ⟨2, ![64, 8192]⟩
abbrev S1x128x128 : Shape := ⟨3, ![1, 128, 128]⟩
abbrev S3x128x128 : Shape := ⟨3, ![3, 128, 128]⟩
abbrev S3x128x8192 : Shape := ⟨3, ![3, 128, 8192]⟩
abbrev S1x128x8192 : Shape := ⟨3, ![1, 128, 8192]⟩
abbrev S128x64 : Shape := ⟨2, ![128, 64]⟩
abbrev S128x8192 : Shape := ⟨2, ![128, 8192]⟩
abbrev S3x8x128x1024 : Shape := ⟨4, ![3, 8, 128, 1024]⟩
abbrev S3x8x128x8 : Shape := ⟨4, ![3, 8, 128, 8]⟩
abbrev S1x40x1024 : Shape := ⟨3, ![1, 40, 1024]⟩
abbrev S1x128x1024 : Shape := ⟨3, ![1, 128, 1024]⟩
abbrev S1x1x128x1024 : Shape := ⟨4, ![1, 1, 128, 1024]⟩
abbrev S1x1x128x8 : Shape := ⟨4, ![1, 1, 128, 8]⟩
abbrev S128x1024 : Shape := ⟨2, ![128, 1024]⟩
abbrev S1024x1024 : Shape := ⟨2, ![1024, 1024]⟩
abbrev S1x1x1024 : Shape := ⟨3, ![1, 1, 1024]⟩
abbrev S128x1 : Shape := ⟨2, ![128, 1]⟩
abbrev S1x1x128x1 : Shape := ⟨4, ![1, 1, 128, 1]⟩
abbrev S128x3 : Shape := ⟨2, ![128, 3]⟩
abbrev S1x1x128x3 : Shape := ⟨4, ![1, 1, 128, 3]⟩
abbrev S3x1 : Shape := ⟨2, ![3, 1]⟩
abbrev S_ : Shape := ⟨0, ![]⟩
abbrev S3x128x8 : Shape := ⟨3, ![3, 128, 8]⟩
abbrev S3x128x1 : Shape := ⟨3, ![3, 128, 1]⟩
abbrev S3x128 : Shape := ⟨2, ![3, 128]⟩
abbrev S1x128 : Shape := ⟨2, ![1, 128]⟩
abbrev S1x128x1 : Shape := ⟨3, ![1, 128, 1]⟩
abbrev S1x8x128x1024 : Shape := ⟨4, ![1, 8, 128, 1024]⟩
abbrev S8x128x1024 : Shape := ⟨3, ![8, 128, 1024]⟩

abbrev nBuf : Space → Nat
  | .hbm => 77
  | .vmem => 39
  | .smem => 0
  | _ => 0

abbrev bufTy : (tb : Table) → Fin (tcTables nBuf tb) → BufTy
  | .hbm, ⟨0, _⟩ => ⟨S8x64x1024, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S3, .f32⟩
  | .hbm, ⟨11, _⟩ => ⟨S8x40x1024, .i32⟩
  | .hbm, ⟨12, _⟩ => ⟨S64x8x1024, .f32⟩
  | .hbm, ⟨13, _⟩ => ⟨S64x8192, .f32⟩
  | .hbm, ⟨14, _⟩ => ⟨S1x128x128, .f32⟩
  | .hbm, ⟨15, _⟩ => ⟨S1x128x128, .f32⟩
  | .hbm, ⟨16, _⟩ => ⟨S1x128x128, .f32⟩
  | .hbm, ⟨17, _⟩ => ⟨S3x128x128, .f32⟩
  | .hbm, ⟨18, _⟩ => ⟨S3x128x8192, .f32⟩
  | .hbm, ⟨19, _⟩ => ⟨S3x128x8192, .f32⟩
  | .hbm, ⟨20, _⟩ => ⟨S3x8x128x1024, .f32⟩
  | .hbm, ⟨21, _⟩ => ⟨S3x8x128x8, .f32⟩
  | .hbm, ⟨22, _⟩ => ⟨S3x1, .f32⟩
  | .hbm, ⟨23, _⟩ => ⟨S_, .f32⟩
  | .hbm, ⟨24, _⟩ => ⟨S3x128x8, .f32⟩
  | .hbm, ⟨25, _⟩ => ⟨S_, .f32⟩
  | .hbm, ⟨26, _⟩ => ⟨S3x1, .f32⟩
  | .hbm, ⟨27, _⟩ => ⟨S3x1, .f32⟩
  | .hbm, ⟨28, _⟩ => ⟨S3x128x1, .f32⟩
  | .hbm, ⟨29, _⟩ => ⟨S3x128, .f32⟩
  | .hbm, ⟨30, _⟩ => ⟨S3x128x1, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S3x128, .f32⟩
  | .hbm, ⟨35, _⟩ => ⟨S3x128x1, .f32⟩
  | .hbm, ⟨36, _⟩ => ⟨S3x128, .f32⟩
  | .hbm, ⟨37, _⟩ => ⟨S3x128x1, .f32⟩
  | .hbm, ⟨38, _⟩ => ⟨S3x128, .f32⟩
  | .hbm, ⟨39, _⟩ => ⟨S_, .f32⟩
  | .hbm, ⟨40, _⟩ => ⟨S3x128, .f32⟩
  | .hbm, ⟨41, _⟩ => ⟨S3x128, .f32⟩
  | .hbm, ⟨42, _⟩ => ⟨S3x128, .f32⟩
  | .hbm, ⟨43, _⟩ => ⟨S3x128x1, .f32⟩
  | .hbm, ⟨44, _⟩ => ⟨S3x128, .f32⟩
  | .hbm, ⟨45, _⟩ => ⟨S3x128, .f32⟩
  | .hbm, ⟨46, _⟩ => ⟨S3x128, .f32⟩
  | .hbm, ⟨47, _⟩ => ⟨S3x128, .f32⟩
  | .hbm, ⟨48, _⟩ => ⟨S3x128, .f32⟩
  | .hbm, ⟨49, _⟩ => ⟨S3x128, .f32⟩
  | .hbm, ⟨50, _⟩ => ⟨S3x128, .f32⟩
  | .hbm, ⟨51, _⟩ => ⟨S3x128, .f32⟩
  | .hbm, ⟨52, _⟩ => ⟨S3x128, .f32⟩
  | .hbm, ⟨53, _⟩ => ⟨S3x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S3x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S3x128, .f32⟩
  | .hbm, ⟨62, _⟩ => ⟨S_, .f32⟩
  | .hbm, ⟨63, _⟩ => ⟨S3x128, .f32⟩
  | .hbm, ⟨64, _⟩ => ⟨S3x128, .f32⟩
  | .hbm, ⟨65, _⟩ => ⟨S3x128, .f32⟩
  | .hbm, ⟨66, _⟩ => ⟨S3x128, .f32⟩
  | .hbm, ⟨67, _⟩ => ⟨S3x128x1, .f32⟩
  | .hbm, ⟨68, _⟩ => ⟨S3x128x1, .f32⟩
  | .hbm, ⟨69, _⟩ => ⟨S3x128x1, .f32⟩
  | .hbm, ⟨70, _⟩ => ⟨S3x8x128x1024, .f32⟩
  | .hbm, ⟨71, _⟩ => ⟨S1x8x128x1024, .f32⟩
  | .hbm, ⟨72, _⟩ => ⟨S8x128x1024, .f32⟩
  | .hbm, ⟨73, _⟩ => ⟨S1x8x128x1024, .f32⟩
  | .hbm, ⟨74, _⟩ => ⟨S8x128x1024, .f32⟩
  | .hbm, ⟨75, _⟩ => ⟨S1x8x128x1024, .f32⟩
  | .hbm, ⟨76, _⟩ => ⟨S8x128x1024, .f32⟩
  | .local _ .vmem, ⟨0, _⟩ => ⟨S1x64x1024, .f32⟩
  | .local _ .vmem, ⟨1, _⟩ => ⟨S1x64x1024, .f32⟩
  | .local _ .vmem, ⟨2, _⟩ => ⟨S1x64x256, .f32⟩
  | .local _ .vmem, ⟨3, _⟩ => ⟨S1x64x256, .f32⟩
  | .local _ .vmem, ⟨4, _⟩ => ⟨S1x40x256, .i32⟩
  | .local _ .vmem, ⟨5, _⟩ => ⟨S1x40x256, .i32⟩
  | .local _ .vmem, ⟨6, _⟩ => ⟨S256x1024, .f32⟩
  | .local _ .vmem, ⟨7, _⟩ => ⟨S1x128x128, .f32⟩
  | .local _ .vmem, ⟨8, _⟩ => ⟨S1x128x128, .f32⟩
  | .local _ .vmem, ⟨9, _⟩ => ⟨S64x8192, .f32⟩
  | .local _ .vmem, ⟨10, _⟩ => ⟨S1x128x8192, .f32⟩
  | .local _ .vmem, ⟨11, _⟩ => ⟨S1x128x8192, .f32⟩
  | .local _ .vmem, ⟨12, _⟩ => ⟨S1x128x8192, .f32⟩
  | .local _ .vmem, ⟨13, _⟩ => ⟨S1x128x8192, .f32⟩
  | .local _ .vmem, ⟨14, _⟩ => ⟨S1x40x1024, .i32⟩
  | .local _ .vmem, ⟨15, _⟩ => ⟨S1x40x1024, .i32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x1x128x1024, .f32⟩
  | .local _ .vmem, ⟨21, _⟩ => ⟨S1x1x128x1024, .f32⟩
  | .local _ .vmem, ⟨22, _⟩ => ⟨S1x1x128x8, .f32⟩
  | .local _ .vmem, ⟨23, _⟩ => ⟨S1x1x128x8, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S1x1x128x1024, .f32⟩
  | .local _ .vmem, ⟨28, _⟩ => ⟨S1x1x128x1024, .f32⟩
  | .local _ .vmem, ⟨29, _⟩ => ⟨S1x128x1024, .f32⟩
  | .local _ .vmem, ⟨30, _⟩ => ⟨S1x128x1024, .f32⟩
  | .local _ .vmem, ⟨31, _⟩ => ⟨S1x128x1, .f32⟩
  | .local _ .vmem, ⟨32, _⟩ => ⟨S1x128x1, .f32⟩
  | .local _ .vmem, ⟨33, _⟩ => ⟨S1x128x1, .f32⟩
  | .local _ .vmem, ⟨34, _⟩ => ⟨S1x128x1, .f32⟩
  | .local _ .vmem, ⟨35, _⟩ => ⟨S1x128x1, .f32⟩
  | .local _ .vmem, ⟨36, _⟩ => ⟨S1x128x1, .f32⟩
  | .local _ .vmem, ⟨37, _⟩ => ⟨S1x1x128x1024, .f32⟩
  | .local _ .vmem, ⟨38, _⟩ => ⟨S1x1x128x1024, .f32⟩
  | _, _ => ⟨S8x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v8_0 : Ref sig .tc := ⟨.hbm, 20, rfl⟩
abbrev main_v8_1 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_3 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_scratch0 : Ref sig .tc := ⟨.vmem, 24, rfl⟩
abbrev cc2_scratch1 : Ref sig .tc := ⟨.vmem, 25, rfl⟩
abbrev cc2_scratch2 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_stg4_0 : Ref sig .tc := ⟨.vmem, 35, rfl⟩
abbrev cc3_stg4_1 : Ref sig .tc := ⟨.vmem, 36, rfl⟩
abbrev cc3_stg5_0 : Ref sig .tc := ⟨.vmem, 37, rfl⟩
abbrev cc3_stg5_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem4_1 : DmaSem sig := 32
abbrev cc3_sem5_0 : DmaSem sig := 33
abbrev cc3_sem5_1 : DmaSem sig := 34

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c40_i32 : BitVec 32 := 40#32
  let v26 : BitVec 32 := Scalar.addi c0_i32 c40_i32
  let c1_i32 : BitVec 32 := 1#32
  ⟨c0_i32, v26, c1_i32⟩
def k0_off1 (k0_t1 : Fin k0_t1_loop.trips) : Fin 3 → Nat :=
  let c0_17 : Index := 0#32
  let c0_i32 : BitVec 32 := 0#32
  let c1_i32 : BitVec 32 := 1#32
  let arg6 : BitVec 32 := Scf.iv c0_i32 c1_i32 k0_t1
  let v39 : Index := Scalar.indexCast arg6
  let c0_18 : Index := 0#32
  ![0, v39.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x40x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![3], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x128x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![3, 8], ![false, false]⟩

@[reducible] def k2_t1_loop (i : grid2.Coords) : Scf.Loop 32 :=
  let c0_i32 : BitVec 32 := 0#32
  let c10_i32 : BitVec 32 := 10#32
  let arg0 : BitVec 32 := BitVec.ofNat 32 (i 0).val
  let v0 : BitVec 32 := Scalar.shli c10_i32 arg0
  let v18 : BitVec 32 := Scalar.subi v0 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_14 : BitVec 32 := 1#32
  ⟨c0_i32, v22, c1_i32_14⟩
def k2_off1 (i : grid2.Coords) (k2_t1 : Fin (k2_t1_loop i).trips) : Fin 3 → Nat :=
  let c0_51 : Index := 0#32
  let c0_i32 : BitVec 32 := 0#32
  let c1_i32_14 : BitVec 32 := 1#32
  let arg10 : BitVec 32 := Scf.iv c0_i32 c1_i32_14 k2_t1
  let v62 : Index := Scalar.indexCast arg10
  let c0_52 : Index := 0#32
  ![0, v62.toNat, 0]
@[reducible] def k2_t2_loop (i : grid2.Coords) : Scf.Loop 32 :=
  let c0_i32 : BitVec 32 := 0#32
  let c10_i32 : BitVec 32 := 10#32
  let arg0 : BitVec 32 := BitVec.ofNat 32 (i 0).val
  let v0 : BitVec 32 := Scalar.shli c10_i32 arg0
  let v18 : BitVec 32 := Scalar.subi v0 c0_i32
  let c1_i32 : BitVec 32 := 1#32
  let v20 : BitVec 32 := Scalar.divsi v18 c1_i32
  let v21 : BitVec 32 := Scalar.muli v20 c1_i32
  let v22 : BitVec 32 := Scalar.addi c0_i32 v21
  let v19 : BitVec 32 := Scalar.addi c0_i32 v18
  let c1_i32_15 : BitVec 32 := 1#32
  ⟨v22, v19, c1_i32_15⟩
def k2_off2 (i : grid2.Coords) (k2_t2 : Fin (k2_t2_loop i).trips) : Fin 3 → Nat :=
  let c0_51 : Index := 0#32
  let c0_i32 : BitVec 32 := 0#32
  let c10_i32 : BitVec 32 := 10#32
  let arg0 : BitVec 32 := BitVec.ofNat 32 (i 0).val
  let v0 : BitVec 32 := Scalar.shli c10_i32 arg0
  let v18 : BitVec 32 := Scalar.subi v0 c0_i32
  let c1_i32 : BitVec 32 := 1#32
  let v20 : BitVec 32 := Scalar.divsi v18 c1_i32
  let v21 : BitVec 32 := Scalar.muli v20 c1_i32
  let v22 : BitVec 32 := Scalar.addi c0_i32 v21
  let c1_i32_15 : BitVec 32 := 1#32
  let arg10 : BitVec 32 := Scf.iv v22 c1_i32_15 k2_t2
  let v62 : Index := Scalar.indexCast arg10
  let c0_52 : Index := 0#32
  ![0, v62.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x40x1024 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x128x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x128x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x128x8 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![3, 8], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage3_0 : Fin 2 → Memref sig .tc .vmem S1x1x128x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1x128x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x128x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x1x128x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]
-- ==== ReferenceIdeal.lean ====
abbrev S8x64x1024 : Shape := ⟨3, ![8, 64, 1024]⟩
abbrev S128x128 : Shape := ⟨2, ![128, 128]⟩
abbrev S128 : Shape := ⟨1, ![128]⟩
abbrev S8x1024x64 : Shape := ⟨3, ![8, 1024, 64]⟩
abbrev S8x1024x1024 : Shape := ⟨3, ![8, 1024, 1024]⟩
abbrev S_ : Shape := ⟨0, ![]⟩
abbrev S8x1024 : Shape := ⟨2, ![8, 1024]⟩
abbrev S8x1x1024 : Shape := ⟨3, ![8, 1, 1024]⟩
abbrev S8x1024x1 : Shape := ⟨3, ![8, 1024, 1]⟩
abbrev S8x1024x10 : Shape := ⟨3, ![8, 1024, 10]⟩
abbrev S8192x64 : Shape := ⟨2, ![8192, 64]⟩
abbrev S8 : Shape := ⟨1, ![8]⟩
abbrev S8x1x1 : Shape := ⟨3, ![8, 1, 1]⟩
abbrev S81920 : Shape := ⟨1, ![81920]⟩
abbrev S81920x1 : Shape := ⟨2, ![81920, 1]⟩
abbrev S1 : Shape := ⟨1, ![1]⟩
abbrev S1x1 : Shape := ⟨2, ![1, 1]⟩
abbrev S81920x64 : Shape := ⟨2, ![81920, 64]⟩
abbrev S8x1024x10x64 : Shape := ⟨4, ![8, 1024, 10, 64]⟩
abbrev S8x1024x1x64 : Shape := ⟨4, ![8, 1024, 1, 64]⟩
abbrev S8x1024x10x128 : Shape := ⟨4, ![8, 1024, 10, 128]⟩
abbrev S8x128x1024x10 : Shape := ⟨4, ![8, 128, 1024, 10]⟩
abbrev S1x128x1x1 : Shape := ⟨4, ![1, 128, 1, 1]⟩
abbrev S8x128x1024 : Shape := ⟨3, ![8, 128, 1024]⟩
abbrev S8x1024x20 : Shape := ⟨3, ![8, 1024, 20]⟩
abbrev S163840 : Shape := ⟨1, ![163840]⟩
abbrev S163840x1 : Shape := ⟨2, ![163840, 1]⟩
abbrev S163840x64 : Shape := ⟨2, ![163840, 64]⟩
abbrev S8x1024x20x64 : Shape := ⟨4, ![8, 1024, 20, 64]⟩
abbrev S8x1024x20x128 : Shape := ⟨4, ![8, 1024, 20, 128]⟩
abbrev S8x128x1024x20 : Shape := ⟨4, ![8, 128, 1024, 20]⟩
abbrev S8x1024x40 : Shape := ⟨3, ![8, 1024, 40]⟩
abbrev S327680 : Shape := ⟨1, ![327680]⟩
abbrev S327680x1 : Shape := ⟨2, ![327680, 1]⟩
abbrev S327680x64 : Shape := ⟨2, ![327680, 64]⟩
abbrev S8x1024x40x64 : Shape := ⟨4, ![8, 1024, 40, 64]⟩
abbrev S8x1024x40x128 : Shape := ⟨4, ![8, 1024, 40, 128]⟩
abbrev S8x128x1024x40 : Shape := ⟨4, ![8, 128, 1024, 40]⟩

abbrev nBuf : Space → Nat
  | .hbm => 367
  | .vmem => 0
  | .smem => 0
  | _ => 0

abbrev hbmTy0_0 (i : Nat) : BufTy := match i % 128 with
  | 0 => ⟨S8x64x1024, .f32⟩
  | 1 => ⟨S128x128, .f32⟩
  | 2 => ⟨S128x128, .f32⟩
  | 3 => ⟨S128x128, .f32⟩
  | 4 => ⟨S128, .f32⟩
  | 5 => ⟨S128, .f32⟩
  | 6 => ⟨S128, .f32⟩
  | 7 => ⟨S128, .f32⟩
  | 8 => ⟨S128, .f32⟩
  | 9 => ⟨S128, .f32⟩
  | 10 => ⟨S8x1024x64, .f32⟩
  | 11 => ⟨S8x1024x1024, .f32⟩
  | 12 => ⟨S_, .f32⟩
  | 13 => ⟨S8x1024x1024, .f32⟩
  | 14 => ⟨S8x1024x1024, .f32⟩
  | 15 => ⟨S8x64x1024, .f32⟩
  | 16 => ⟨S_, .f32⟩
  | 17 => ⟨S8x1024, .f32⟩
  | 18 => ⟨S8x1x1024, .f32⟩
  | 19 => ⟨S8x1x1024, .f32⟩
  | 20 => ⟨S8x1024x1024, .f32⟩
  | 21 => ⟨S8x1024x1024, .f32⟩
  | 22 => ⟨S8x1024x1, .f32⟩
  | 23 => ⟨S8x1024x1024, .f32⟩
  | 24 => ⟨S8x1024x1024, .f32⟩
  | 25 => ⟨S8x1024x10, .f32⟩
  | 26 => ⟨S8x1024x10, .i32⟩
  | 27 => ⟨S_, .i32⟩
  | 28 => ⟨S_, .i32⟩
  | 29 => ⟨S_, .i32⟩
  | 30 => ⟨S8x1024x10, .i32⟩
  | 31 => ⟨S8x1024x10, .i32⟩
  | 32 => ⟨S_, .i32⟩
  | 33 => ⟨S8x1024x10, .i32⟩
  | 34 => ⟨S8x1024x10, .i32⟩
  | 35 => ⟨S8x1024x64, .f32⟩
  | 36 => ⟨S8192x64, .f32⟩
  | 37 => ⟨S8, .i32⟩
  | 38 => ⟨S_, .i32⟩
  | 39 => ⟨S8, .i32⟩
  | 40 => ⟨S8, .i32⟩
  | 41 => ⟨S8x1x1, .i32⟩
  | 42 => ⟨S8x1024x10, .i32⟩
  | 43 => ⟨S8x1024x10, .i32⟩
  | 44 => ⟨S81920, .i32⟩
  | 45 => ⟨S_, .i32⟩
  | 46 => ⟨S81920, .i32⟩
  | 47 => ⟨S81920, .i1⟩
  | 48 => ⟨S_, .i32⟩
  | 49 => ⟨S81920, .i32⟩
  | 50 => ⟨S81920, .i32⟩
  | 51 => ⟨S81920, .i32⟩
  | 52 => ⟨S81920x1, .i32⟩
  | 53 => ⟨S1, .i32⟩
  | 54 => ⟨S_, .i32⟩
  | 55 => ⟨S81920x1, .i32⟩
  | 56 => ⟨S81920x1, .i1⟩
  | 57 => ⟨S1x1, .i32⟩
  | 58 => ⟨S81920x1, .i32⟩
  | 59 => ⟨S81920x1, .i1⟩
  | 60 => ⟨S81920x1, .i1⟩
  | 61 => ⟨S_, .i1⟩
  | 62 => ⟨S81920, .i1⟩
  | 63 => ⟨S81920x64, .f32⟩
  | 64 => ⟨S81920x64, .i1⟩
  | 65 => ⟨S_, .f32⟩
  | 66 => ⟨S81920x64, .f32⟩
  | 67 => ⟨S81920x64, .f32⟩
  | 68 => ⟨S8x1024x10x64, .f32⟩
  | 69 => ⟨S8x1024x1x64, .f32⟩
  | 70 => ⟨S8x1024x10x64, .f32⟩
  | 71 => ⟨S8x1024x10x64, .f32⟩
  | 72 => ⟨S8x1024x10x128, .f32⟩
  | 73 => ⟨S8x128x1024x10, .f32⟩
  | 74 => ⟨S8x1024x10x128, .f32⟩
  | 75 => ⟨S8x128x1024x10, .f32⟩
  | 76 => ⟨S_, .f32⟩
  | 77 => ⟨S128, .f32⟩
  | 78 => ⟨S1x128x1x1, .f32⟩
  | 79 => ⟨S_, .f32⟩
  | 80 => ⟨S1x128x1x1, .f32⟩
  | 81 => ⟨S1x128x1x1, .f32⟩
  | 82 => ⟨S_, .i32⟩
  | 83 => ⟨S_, .f32⟩
  | 84 => ⟨S128, .f32⟩
  | 85 => ⟨S1x128x1x1, .f32⟩
  | 86 => ⟨S_, .f32⟩
  | 87 => ⟨S1x128x1x1, .f32⟩
  | 88 => ⟨S1x128x1x1, .f32⟩
  | 89 => ⟨S8x128x1024x10, .f32⟩
  | 90 => ⟨S8x128x1024x10, .f32⟩
  | 91 => ⟨S8x128x1024x10, .f32⟩
  | 92 => ⟨S_, .f32⟩
  | 93 => ⟨S_, .f32⟩
  | 94 => ⟨S_, .f32⟩
  | 95 => ⟨S_, .f32⟩
  | 96 => ⟨S128, .f32⟩
  | 97 => ⟨S1x128x1x1, .f32⟩
  | 98 => ⟨S1x128x1x1, .f32⟩
  | 99 => ⟨S1x128x1x1, .f32⟩
  | 100 => ⟨S_, .f32⟩
  | 101 => ⟨S_, .i1⟩
  | 102 => ⟨S_, .f32⟩
  | 103 => ⟨S_, .f32⟩
  | 104 => ⟨S1x128x1x1, .f32⟩
  | 105 => ⟨S1x128x1x1, .f32⟩
  | 106 => ⟨S8x128x1024x10, .f32⟩
  | 107 => ⟨S8x128x1024x10, .f32⟩
  | 108 => ⟨S_, .f32⟩
  | 109 => ⟨S1x128x1x1, .f32⟩
  | 110 => ⟨S1x128x1x1, .f32⟩
  | 111 => ⟨S1x128x1x1, .f32⟩
  | 112 => ⟨S8x128x1024x10, .f32⟩
  | 113 => ⟨S8x128x1024x10, .f32⟩
  | 114 => ⟨S1x128x1x1, .f32⟩
  | 115 => ⟨S8x128x1024x10, .f32⟩
  | 116 => ⟨S8x128x1024x10, .f32⟩
  | 117 => ⟨S1x128x1x1, .f32⟩
  | 118 => ⟨S8x128x1024x10, .f32⟩
  | 119 => ⟨S8x128x1024x10, .f32⟩
  | 120 => ⟨S_, .f32⟩
  | 121 => ⟨S8x128x1024x10, .f32⟩
  | 122 => ⟨S8x128x1024x10, .i1⟩
  | 123 => ⟨S_, .f32⟩
  | 124 => ⟨S8x128x1024x10, .f32⟩
  | 125 => ⟨S8x128x1024x10, .f32⟩
  | 126 => ⟨S8x128x1024x10, .f32⟩
  | 127 => ⟨S_, .f32⟩
  | _ => ⟨S8x64x1024, .f32⟩

abbrev hbmTy0_1 (i : Nat) : BufTy := match i % 128 with
  | 0 => ⟨S8x128x1024, .f32⟩
  | 1 => ⟨S8x1024x64, .f32⟩
  | 2 => ⟨S8x1024x1024, .f32⟩
  | 3 => ⟨S_, .f32⟩
  | 4 => ⟨S8x1024x1024, .f32⟩
  | 5 => ⟨S8x1024x1024, .f32⟩
  | 6 => ⟨S8x64x1024, .f32⟩
  | 7 => ⟨S_, .f32⟩
  | 8 => ⟨S8x1024, .f32⟩
  | 9 => ⟨S8x1x1024, .f32⟩
  | 10 => ⟨S8x1x1024, .f32⟩
  | 11 => ⟨S8x1024x1024, .f32⟩
  | 12 => ⟨S8x1024x1024, .f32⟩
  | 13 => ⟨S8x1024x1, .f32⟩
  | 14 => ⟨S8x1024x1024, .f32⟩
  | 15 => ⟨S8x1024x1024, .f32⟩
  | 16 => ⟨S8x1024x20, .f32⟩
  | 17 => ⟨S8x1024x20, .i32⟩
  | 18 => ⟨S_, .i32⟩
  | 19 => ⟨S_, .i32⟩
  | 20 => ⟨S_, .i32⟩
  | 21 => ⟨S8x1024x20, .i32⟩
  | 22 => ⟨S8x1024x20, .i32⟩
  | 23 => ⟨S_, .i32⟩
  | 24 => ⟨S8x1024x20, .i32⟩
  | 25 => ⟨S8x1024x20, .i32⟩
  | 26 => ⟨S8x1024x64, .f32⟩
  | 27 => ⟨S8192x64, .f32⟩
  | 28 => ⟨S8, .i32⟩
  | 29 => ⟨S_, .i32⟩
  | 30 => ⟨S8, .i32⟩
  | 31 => ⟨S8, .i32⟩
  | 32 => ⟨S8x1x1, .i32⟩
  | 33 => ⟨S8x1024x20, .i32⟩
  | 34 => ⟨S8x1024x20, .i32⟩
  | 35 => ⟨S163840, .i32⟩
  | 36 => ⟨S_, .i32⟩
  | 37 => ⟨S163840, .i32⟩
  | 38 => ⟨S163840, .i1⟩
  | 39 => ⟨S_, .i32⟩
  | 40 => ⟨S163840, .i32⟩
  | 41 => ⟨S163840, .i32⟩
  | 42 => ⟨S163840, .i32⟩
  | 43 => ⟨S163840x1, .i32⟩
  | 44 => ⟨S1, .i32⟩
  | 45 => ⟨S_, .i32⟩
  | 46 => ⟨S163840x1, .i32⟩
  | 47 => ⟨S163840x1, .i1⟩
  | 48 => ⟨S1x1, .i32⟩
  | 49 => ⟨S163840x1, .i32⟩
  | 50 => ⟨S163840x1, .i1⟩
  | 51 => ⟨S163840x1, .i1⟩
  | 52 => ⟨S_, .i1⟩
  | 53 => ⟨S163840, .i1⟩
  | 54 => ⟨S163840x64, .f32⟩
  | 55 => ⟨S163840x64, .i1⟩
  | 56 => ⟨S_, .f32⟩
  | 57 => ⟨S163840x64, .f32⟩
  | 58 => ⟨S163840x64, .f32⟩
  | 59 => ⟨S8x1024x20x64, .f32⟩
  | 60 => ⟨S8x1024x1x64, .f32⟩
  | 61 => ⟨S8x1024x20x64, .f32⟩
  | 62 => ⟨S8x1024x20x64, .f32⟩
  | 63 => ⟨S8x1024x20x128, .f32⟩
  | 64 => ⟨S8x128x1024x20, .f32⟩
  | 65 => ⟨S8x1024x20x128, .f32⟩
  | 66 => ⟨S8x128x1024x20, .f32⟩
  | 67 => ⟨S_, .f32⟩
  | 68 => ⟨S128, .f32⟩
  | 69 => ⟨S1x128x1x1, .f32⟩
  | 70 => ⟨S_, .f32⟩
  | 71 => ⟨S1x128x1x1, .f32⟩
  | 72 => ⟨S1x128x1x1, .f32⟩
  | 73 => ⟨S_, .i32⟩
  | 74 => ⟨S_, .f32⟩
  | 75 => ⟨S128, .f32⟩
  | 76 => ⟨S1x128x1x1, .f32⟩
  | 77 => ⟨S_, .f32⟩
  | 78 => ⟨S1x128x1x1, .f32⟩
  | 79 => ⟨S1x128x1x1, .f32⟩
  | 80 => ⟨S8x128x1024x20, .f32⟩
  | 81 => ⟨S8x128x1024x20, .f32⟩
  | 82 => ⟨S8x128x1024x20, .f32⟩
  | 83 => ⟨S_, .f32⟩
  | 84 => ⟨S_, .f32⟩
  | 85 => ⟨S_, .f32⟩
  | 86 => ⟨S_, .f32⟩
  | 87 => ⟨S128, .f32⟩
  | 88 => ⟨S1x128x1x1, .f32⟩
  | 89 => ⟨S1x128x1x1, .f32⟩
  | 90 => ⟨S1x128x1x1, .f32⟩
  | 91 => ⟨S_, .f32⟩
  | 92 => ⟨S_, .i1⟩
  | 93 => ⟨S_, .f32⟩
  | 94 => ⟨S_, .f32⟩
  | 95 => ⟨S1x128x1x1, .f32⟩
  | 96 => ⟨S1x128x1x1, .f32⟩
  | 97 => ⟨S8x128x1024x20, .f32⟩
  | 98 => ⟨S8x128x1024x20, .f32⟩
  | 99 => ⟨S_, .f32⟩
  | 100 => ⟨S1x128x1x1, .f32⟩
  | 101 => ⟨S1x128x1x1, .f32⟩
  | 102 => ⟨S1x128x1x1, .f32⟩
  | 103 => ⟨S8x128x1024x20, .f32⟩
  | 104 => ⟨S8x128x1024x20, .f32⟩
  | 105 => ⟨S1x128x1x1, .f32⟩
  | 106 => ⟨S8x128x1024x20, .f32⟩
  | 107 => ⟨S8x128x1024x20, .f32⟩
  | 108 => ⟨S1x128x1x1, .f32⟩
  | 109 => ⟨S8x128x1024x20, .f32⟩
  | 110 => ⟨S8x128x1024x20, .f32⟩
  | 111 => ⟨S_, .f32⟩
  | 112 => ⟨S8x128x1024x20, .f32⟩
  | 113 => ⟨S8x128x1024x20, .i1⟩
  | 114 => ⟨S_, .f32⟩
  | 115 => ⟨S8x128x1024x20, .f32⟩
  | 116 => ⟨S8x128x1024x20, .f32⟩
  | 117 => ⟨S8x128x1024x20, .f32⟩
  | 118 => ⟨S_, .f32⟩
  | 119 => ⟨S8x128x1024, .f32⟩
  | 120 => ⟨S8x1024x64, .f32⟩
  | 121 => ⟨S8x1024x1024, .f32⟩
  | 122 => ⟨S_, .f32⟩
  | 123 => ⟨S8x1024x1024, .f32⟩
  | 124 => ⟨S8x1024x1024, .f32⟩
  | 125 => ⟨S8x64x1024, .f32⟩
  | 126 => ⟨S_, .f32⟩
  | 127 => ⟨S8x1024, .f32⟩
  | _ => ⟨S8x64x1024, .f32⟩

abbrev hbmTy0_2 (i : Nat) : BufTy := match i % 128 with
  | 0 => ⟨S8x1x1024, .f32⟩
  | 1 => ⟨S8x1x1024, .f32⟩
  | 2 => ⟨S8x1024x1024, .f32⟩
  | 3 => ⟨S8x1024x1024, .f32⟩
  | 4 => ⟨S8x1024x1, .f32⟩
  | 5 => ⟨S8x1024x1024, .f32⟩
  | 6 => ⟨S8x1024x1024, .f32⟩
  | 7 => ⟨S8x1024x40, .f32⟩
  | 8 => ⟨S8x1024x40, .i32⟩
  | 9 => ⟨S_, .i32⟩
  | 10 => ⟨S_, .i32⟩
  | 11 => ⟨S_, .i32⟩
  | 12 => ⟨S8x1024x40, .i32⟩
  | 13 => ⟨S8x1024x40, .i32⟩
  | 14 => ⟨S_, .i32⟩
  | 15 => ⟨S8x1024x40, .i32⟩
  | 16 => ⟨S8x1024x40, .i32⟩
  | 17 => ⟨S8x1024x64, .f32⟩
  | 18 => ⟨S8192x64, .f32⟩
  | 19 => ⟨S8, .i32⟩
  | 20 => ⟨S_, .i32⟩
  | 21 => ⟨S8, .i32⟩
  | 22 => ⟨S8, .i32⟩
  | 23 => ⟨S8x1x1, .i32⟩
  | 24 => ⟨S8x1024x40, .i32⟩
  | 25 => ⟨S8x1024x40, .i32⟩
  | 26 => ⟨S327680, .i32⟩
  | 27 => ⟨S_, .i32⟩
  | 28 => ⟨S327680, .i32⟩
  | 29 => ⟨S327680, .i1⟩
  | 30 => ⟨S_, .i32⟩
  | 31 => ⟨S327680, .i32⟩
  | 32 => ⟨S327680, .i32⟩
  | 33 => ⟨S327680, .i32⟩
  | 34 => ⟨S327680x1, .i32⟩
  | 35 => ⟨S1, .i32⟩
  | 36 => ⟨S_, .i32⟩
  | 37 => ⟨S327680x1, .i32⟩
  | 38 => ⟨S327680x1, .i1⟩
  | 39 => ⟨S1x1, .i32⟩
  | 40 => ⟨S327680x1, .i32⟩
  | 41 => ⟨S327680x1, .i1⟩
  | 42 => ⟨S327680x1, .i1⟩
  | 43 => ⟨S_, .i1⟩
  | 44 => ⟨S327680, .i1⟩
  | 45 => ⟨S327680x64, .f32⟩
  | 46 => ⟨S327680x64, .i1⟩
  | 47 => ⟨S_, .f32⟩
  | 48 => ⟨S327680x64, .f32⟩
  | 49 => ⟨S327680x64, .f32⟩
  | 50 => ⟨S8x1024x40x64, .f32⟩
  | 51 => ⟨S8x1024x1x64, .f32⟩
  | 52 => ⟨S8x1024x40x64, .f32⟩
  | 53 => ⟨S8x1024x40x64, .f32⟩
  | 54 => ⟨S8x1024x40x128, .f32⟩
  | 55 => ⟨S8x128x1024x40, .f32⟩
  | 56 => ⟨S8x1024x40x128, .f32⟩
  | 57 => ⟨S8x128x1024x40, .f32⟩
  | 58 => ⟨S_, .f32⟩
  | 59 => ⟨S128, .f32⟩
  | 60 => ⟨S1x128x1x1, .f32⟩
  | 61 => ⟨S_, .f32⟩
  | 62 => ⟨S1x128x1x1, .f32⟩
  | 63 => ⟨S1x128x1x1, .f32⟩
  | 64 => ⟨S_, .i32⟩
  | 65 => ⟨S_, .f32⟩
  | 66 => ⟨S128, .f32⟩
  | 67 => ⟨S1x128x1x1, .f32⟩
  | 68 => ⟨S_, .f32⟩
  | 69 => ⟨S1x128x1x1, .f32⟩
  | 70 => ⟨S1x128x1x1, .f32⟩
  | 71 => ⟨S8x128x1024x40, .f32⟩
  | 72 => ⟨S8x128x1024x40, .f32⟩
  | 73 => ⟨S8x128x1024x40, .f32⟩
  | 74 => ⟨S_, .f32⟩
  | 75 => ⟨S_, .f32⟩
  | 76 => ⟨S_, .f32⟩
  | 77 => ⟨S_, .f32⟩
  | 78 => ⟨S128, .f32⟩
  | 79 => ⟨S1x128x1x1, .f32⟩
  | 80 => ⟨S1x128x1x1, .f32⟩
  | 81 => ⟨S1x128x1x1, .f32⟩
  | 82 => ⟨S_, .f32⟩
  | 83 => ⟨S_, .i1⟩
  | 84 => ⟨S_, .f32⟩
  | 85 => ⟨S_, .f32⟩
  | 86 => ⟨S1x128x1x1, .f32⟩
  | 87 => ⟨S1x128x1x1, .f32⟩
  | 88 => ⟨S8x128x1024x40, .f32⟩
  | 89 => ⟨S8x128x1024x40, .f32⟩
  | 90 => ⟨S_, .f32⟩
  | 91 => ⟨S1x128x1x1, .f32⟩
  | 92 => ⟨S1x128x1x1, .f32⟩
  | 93 => ⟨S1x128x1x1, .f32⟩
  | 94 => ⟨S8x128x1024x40, .f32⟩
  | 95 => ⟨S8x128x1024x40, .f32⟩
  | 96 => ⟨S1x128x1x1, .f32⟩
  | 97 => ⟨S8x128x1024x40, .f32⟩
  | 98 => ⟨S8x128x1024x40, .f32⟩
  | 99 => ⟨S1x128x1x1, .f32⟩
  | 100 => ⟨S8x128x1024x40, .f32⟩
  | 101 => ⟨S8x128x1024x40, .f32⟩
  | 102 => ⟨S_, .f32⟩
  | 103 => ⟨S8x128x1024x40, .f32⟩
  | 104 => ⟨S8x128x1024x40, .i1⟩
  | 105 => ⟨S_, .f32⟩
  | 106 => ⟨S8x128x1024x40, .f32⟩
  | 107 => ⟨S8x128x1024x40, .f32⟩
  | 108 => ⟨S8x128x1024x40, .f32⟩
  | 109 => ⟨S_, .f32⟩
  | 110 => ⟨S8x128x1024, .f32⟩
  | _ => ⟨S8x64x1024, .f32⟩

abbrev hbmTy (i : Nat) : BufTy := match i / 128 with
  | 0 => hbmTy0_0 i
  | 1 => hbmTy0_1 i
  | 2 => hbmTy0_2 i
  | _ => ⟨S8x64x1024, .f32⟩

abbrev bufTy : (tb : Table) → Fin (tcTables nBuf tb) → BufTy
  | .hbm, ⟨i, _⟩ => hbmTy i
  | _, _ => ⟨S8x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_values : Ref sig .tc := ⟨.hbm, 25, rfl⟩
abbrev main_indices : Ref sig .tc := ⟨.hbm, 26, rfl⟩
abbrev main_c : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_3 : Ref sig .tc := ⟨.hbm, 76, rfl⟩
abbrev main_v32 : Ref sig .tc := ⟨.hbm, 77, rfl⟩
abbrev main_v33 : Ref sig .tc := ⟨.hbm, 78, rfl⟩
abbrev main_cst_4 : Ref sig .tc := ⟨.hbm, 79, rfl⟩
abbrev main_v34 : Ref sig .tc := ⟨.hbm, 80, rfl⟩
abbrev main_v35 : Ref sig .tc := ⟨.hbm, 81, rfl⟩
abbrev main_c_5 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_v12 : Ref sig .tc := ⟨.hbm, 99, rfl⟩
abbrev main_call2_cst_3 : Ref sig .tc := ⟨.hbm, 100, rfl⟩
abbrev main_call2_v13 : Ref sig .tc := ⟨.hbm, 101, rfl⟩
abbrev main_call2_cst_4 : Ref sig .tc := ⟨.hbm, 102, rfl⟩
abbrev main_call2_call0_v0 : Ref sig .tc := ⟨.hbm, 103, rfl⟩
abbrev main_call2_call0_v1 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_cst_6 : Ref sig .tc := ⟨.hbm, 108, rfl⟩
abbrev main_v39 : Ref sig .tc := ⟨.hbm, 109, rfl⟩
abbrev main_v40 : Ref sig .tc := ⟨.hbm, 110, rfl⟩
abbrev main_v41 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_cst_7 : Ref sig .tc := ⟨.hbm, 120, rfl⟩
abbrev main_v50 : Ref sig .tc := ⟨.hbm, 121, rfl⟩
abbrev main_v51 : Ref sig .tc := ⟨.hbm, 122, rfl⟩
abbrev main_cst_8 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_cst_9 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_cst_10 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_cst_11 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_values_12 : Ref sig .tc := ⟨.hbm, 144, rfl⟩
abbrev main_indices_13 : Ref sig .tc := ⟨.hbm, 145, rfl⟩
abbrev main_c_14 : Ref sig .tc := ⟨.hbm, 146, rfl⟩
abbrev main_c_15 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_c_16 : Ref sig .tc := ⟨.hbm, 157, rfl⟩
abbrev main_v73 : Ref sig .tc := ⟨.hbm, 158, rfl⟩
abbrev main_v74 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_call5_c : Ref sig .tc := ⟨.hbm, 164, rfl⟩
abbrev main_call5_v0 : Ref sig .tc := ⟨.hbm, 165, rfl⟩
abbrev main_call5_v1 : Ref sig .tc := ⟨.hbm, 166, rfl⟩
abbrev main_call5_c_0 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_c_1 : Ref sig .tc := ⟨.hbm, 172, rfl⟩
abbrev main_call5_c_2 : Ref sig .tc := ⟨.hbm, 173, rfl⟩
abbrev main_call5_v6 : Ref sig .tc := ⟨.hbm, 174, rfl⟩
abbrev main_call5_v7 : Ref sig .tc := ⟨.hbm, 175, rfl⟩
abbrev main_call5_v8 : Ref sig .tc := ⟨.hbm, 176, rfl⟩
abbrev main_call5_v9 : Ref sig .tc := ⟨.hbm, 177, rfl⟩
abbrev main_call5_v10 : Ref sig .tc := ⟨.hbm, 178, rfl⟩
abbrev main_call5_v11 : Ref sig .tc := ⟨.hbm, 179, rfl⟩
abbrev main_call5_c_3 : Ref sig .tc := ⟨.hbm, 180, rfl⟩
abbrev main_call5_v12 : Ref sig .tc := ⟨.hbm, 181, rfl⟩
abbrev main_call5_v13 : Ref sig .tc := ⟨.hbm, 182, rfl⟩
abbrev main_call5_v14 : Ref sig .tc := ⟨.hbm, 183, rfl⟩
abbrev main_call5_cst : Ref sig .tc := ⟨.hbm, 184, rfl⟩
abbrev main_call5_v15 : Ref sig .tc := ⟨.hbm, 185, rfl⟩
abbrev main_v79 : Ref sig .tc := ⟨.hbm, 186, rfl⟩
abbrev main_v80 : Ref sig .tc := ⟨.hbm, 187, rfl⟩
abbrev main_v81 : Ref sig .tc := ⟨.hbm, 188, rfl⟩
abbrev main_v82 : Ref sig .tc := ⟨.hbm, 189, rfl⟩
abbrev main_v83 : Ref sig .tc := ⟨.hbm, 190, rfl⟩
abbrev main_v84 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_cst_17 : Ref sig .tc := ⟨.hbm, 195, rfl⟩
abbrev main_v88 : Ref sig .tc := ⟨.hbm, 196, rfl⟩
abbrev main_v89 : Ref sig .tc := ⟨.hbm, 197, rfl⟩
abbrev main_cst_18 : Ref sig .tc := ⟨.hbm, 198, rfl⟩
abbrev main_v90 : Ref sig .tc := ⟨.hbm, 199, rfl⟩
abbrev main_v91 : Ref sig .tc := ⟨.hbm, 200, rfl⟩
abbrev main_c_19 : Ref sig .tc := ⟨.hbm, 201, rfl⟩
abbrev main_call6_cst : Ref sig .tc := ⟨.hbm, 202, rfl⟩
abbrev main_call6_v0 : Ref sig .tc := ⟨.hbm, 203, rfl⟩
abbrev main_call6_v1 : Ref sig .tc := ⟨.hbm, 204, rfl⟩
abbrev main_call6_cst_0 : Ref sig .tc := ⟨.hbm, 205, rfl⟩
abbrev main_call6_v2 : Ref sig .tc := ⟨.hbm, 206, rfl⟩
abbrev main_call6_v3 : Ref sig .tc := ⟨.hbm, 207, rfl⟩
abbrev main_call6_v4 : Ref sig .tc := ⟨.hbm, 208, rfl⟩
abbrev main_call6_v5 : Ref sig .tc := ⟨.hbm, 209, rfl⟩
abbrev main_call6_v6 : Ref sig .tc := ⟨.hbm, 210, rfl⟩
abbrev main_call6_v7 : Ref sig .tc := ⟨.hbm, 211, rfl⟩
abbrev main_call6_cst_1 : Ref sig .tc := ⟨.hbm, 212, rfl⟩
abbrev main_call6_v8 : Ref sig .tc := ⟨.hbm, 213, rfl⟩
abbrev main_call6_cst_2 : Ref sig .tc := ⟨.hbm, 214, rfl⟩
abbrev main_call6_v9 : Ref sig .tc := ⟨.hbm, 215, rfl⟩
abbrev main_call6_v10 : Ref sig .tc := ⟨.hbm, 216, rfl⟩
abbrev main_call6_v11 : Ref sig .tc := ⟨.hbm, 217, rfl⟩
abbrev main_call6_v12 : Ref sig .tc := ⟨.hbm, 218, rfl⟩
abbrev main_call6_cst_3 : Ref sig .tc := ⟨.hbm, 219, rfl⟩
abbrev main_call6_v13 : Ref sig .tc := ⟨.hbm, 220, rfl⟩
abbrev main_call6_cst_4 : Ref sig .tc := ⟨.hbm, 221, rfl⟩
abbrev main_call6_call0_v0 : Ref sig .tc := ⟨.hbm, 222, rfl⟩
abbrev main_call6_call0_v1 : Ref sig .tc := ⟨.hbm, 223, rfl⟩
abbrev main_v92 : Ref sig .tc := ⟨.hbm, 224, rfl⟩
abbrev main_v93 : Ref sig .tc := ⟨.hbm, 225, rfl⟩
abbrev main_v94 : Ref sig .tc := ⟨.hbm, 226, rfl⟩
abbrev main_cst_20 : Ref sig .tc := ⟨.hbm, 227, rfl⟩
abbrev main_v95 : Ref sig .tc := ⟨.hbm, 228, rfl⟩
abbrev main_v96 : Ref sig .tc := ⟨.hbm, 229, rfl⟩
abbrev main_v97 : Ref sig .tc := ⟨.hbm, 230, rfl⟩
abbrev main_v98 : Ref sig .tc := ⟨.hbm, 231, rfl⟩
abbrev main_v99 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_v105 : Ref sig .tc := ⟨.hbm, 238, rfl⟩
abbrev main_cst_21 : Ref sig .tc := ⟨.hbm, 239, rfl⟩
abbrev main_v106 : Ref sig .tc := ⟨.hbm, 240, rfl⟩
abbrev main_v107 : Ref sig .tc := ⟨.hbm, 241, rfl⟩
abbrev main_cst_22 : Ref sig .tc := ⟨.hbm, 242, rfl⟩
abbrev main_v108 : Ref sig .tc := ⟨.hbm, 243, rfl⟩
abbrev main_v109 : Ref sig .tc := ⟨.hbm, 244, rfl⟩
abbrev main_v110 : Ref sig .tc := ⟨.hbm, 245, rfl⟩
abbrev main_cst_23 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_cst_24 : Ref sig .tc := ⟨.hbm, 250, rfl⟩
abbrev main_v114 : Ref sig .tc := ⟨.hbm, 251, rfl⟩
abbrev main_v115 : Ref sig .tc := ⟨.hbm, 252, rfl⟩
abbrev main_v116 : Ref sig .tc := ⟨.hbm, 253, rfl⟩
abbrev main_cst_25 : Ref sig .tc := ⟨.hbm, 254, rfl⟩
abbrev main_v117 : Ref sig .tc := ⟨.hbm, 255, rfl⟩
abbrev main_v118 : Ref sig .tc := ⟨.hbm, 256, rfl⟩
abbrev main_v119 : Ref sig .tc := ⟨.hbm, 257, rfl⟩
abbrev main_v120 : Ref sig .tc := ⟨.hbm, 258, rfl⟩
abbrev main_v121 : Ref sig .tc := ⟨.hbm, 259, rfl⟩
abbrev main_v122 : Ref sig .tc := ⟨.hbm, 260, rfl⟩
abbrev main_v123 : Ref sig .tc := ⟨.hbm, 261, rfl⟩
abbrev main_v124 : Ref sig .tc := ⟨.hbm, 262, rfl⟩
abbrev main_values_26 : Ref sig .tc := ⟨.hbm, 263, rfl⟩
abbrev main_indices_27 : Ref sig .tc := ⟨.hbm, 264, rfl⟩
abbrev main_c_28 : Ref sig .tc := ⟨.hbm, 265, rfl⟩
abbrev main_c_29 : Ref sig .tc := ⟨.hbm, 266, rfl⟩
abbrev main_call8_v0 : Ref sig .tc := ⟨.hbm, 267, rfl⟩
abbrev main_call8_v1 : Ref sig .tc := ⟨.hbm, 268, rfl⟩
abbrev main_call8_v2 : Ref sig .tc := ⟨.hbm, 269, rfl⟩
abbrev main_call8_v3 : Ref sig .tc := ⟨.hbm, 270, rfl⟩
abbrev main_call8_v4 : Ref sig .tc := ⟨.hbm, 271, rfl⟩
abbrev main_v125 : Ref sig .tc := ⟨.hbm, 272, rfl⟩
abbrev main_v126 : Ref sig .tc := ⟨.hbm, 273, rfl⟩
abbrev main_v127 : Ref sig .tc := ⟨.hbm, 274, rfl⟩
abbrev main_v128 : Ref sig .tc := ⟨.hbm, 275, rfl⟩
abbrev main_c_30 : Ref sig .tc := ⟨.hbm, 276, rfl⟩
abbrev main_v129 : Ref sig .tc := ⟨.hbm, 277, rfl⟩
abbrev main_v130 : Ref sig .tc := ⟨.hbm, 278, rfl⟩
abbrev main_v131 : Ref sig .tc := ⟨.hbm, 279, rfl⟩
abbrev main_v132 : Ref sig .tc := ⟨.hbm, 280, rfl⟩
abbrev main_v133 : Ref sig .tc := ⟨.hbm, 281, rfl⟩
abbrev main_v134 : Ref sig .tc := ⟨.hbm, 282, rfl⟩
abbrev main_call9_c : Ref sig .tc := ⟨.hbm, 283, rfl⟩
abbrev main_call9_v0 : Ref sig .tc := ⟨.hbm, 284, rfl⟩
abbrev main_call9_v1 : Ref sig .tc := ⟨.hbm, 285, rfl⟩
abbrev main_call9_c_0 : Ref sig .tc := ⟨.hbm, 286, rfl⟩
abbrev main_call9_v2 : Ref sig .tc := ⟨.hbm, 287, rfl⟩
abbrev main_call9_v3 : Ref sig .tc := ⟨.hbm, 288, rfl⟩
abbrev main_call9_v4 : Ref sig .tc := ⟨.hbm, 289, rfl⟩
abbrev main_call9_v5 : Ref sig .tc := ⟨.hbm, 290, rfl⟩
abbrev main_call9_c_1 : Ref sig .tc := ⟨.hbm, 291, rfl⟩
abbrev main_call9_c_2 : Ref sig .tc := ⟨.hbm, 292, rfl⟩
abbrev main_call9_v6 : Ref sig .tc := ⟨.hbm, 293, rfl⟩
abbrev main_call9_v7 : Ref sig .tc := ⟨.hbm, 294, rfl⟩
abbrev main_call9_v8 : Ref sig .tc := ⟨.hbm, 295, rfl⟩
abbrev main_call9_v9 : Ref sig .tc := ⟨.hbm, 296, rfl⟩
abbrev main_call9_v10 : Ref sig .tc := ⟨.hbm, 297, rfl⟩
abbrev main_call9_v11 : Ref sig .tc := ⟨.hbm, 298, rfl⟩
abbrev main_call9_c_3 : Ref sig .tc := ⟨.hbm, 299, rfl⟩
abbrev main_call9_v12 : Ref sig .tc := ⟨.hbm, 300, rfl⟩
abbrev main_call9_v13 : Ref sig .tc := ⟨.hbm, 301, rfl⟩
abbrev main_call9_v14 : Ref sig .tc := ⟨.hbm, 302, rfl⟩
abbrev main_call9_cst : Ref sig .tc := ⟨.hbm, 303, rfl⟩
abbrev main_call9_v15 : Ref sig .tc := ⟨.hbm, 304, rfl⟩
abbrev main_v135 : Ref sig .tc := ⟨.hbm, 305, rfl⟩
abbrev main_v136 : Ref sig .tc := ⟨.hbm, 306, rfl⟩
abbrev main_v137 : Ref sig .tc := ⟨.hbm, 307, rfl⟩
abbrev main_v138 : Ref sig .tc := ⟨.hbm, 308, rfl⟩
abbrev main_v139 : Ref sig .tc := ⟨.hbm, 309, rfl⟩
abbrev main_v140 : Ref sig .tc := ⟨.hbm, 310, rfl⟩
abbrev main_v141 : Ref sig .tc := ⟨.hbm, 311, rfl⟩
abbrev main_v142 : Ref sig .tc := ⟨.hbm, 312, rfl⟩
abbrev main_v143 : Ref sig .tc := ⟨.hbm, 313, rfl⟩
abbrev main_cst_31 : Ref sig .tc := ⟨.hbm, 314, rfl⟩
abbrev main_v144 : Ref sig .tc := ⟨.hbm, 315, rfl⟩
abbrev main_v145 : Ref sig .tc := ⟨.hbm, 316, rfl⟩
abbrev main_cst_32 : Ref sig .tc := ⟨.hbm, 317, rfl⟩
abbrev main_v146 : Ref sig .tc := ⟨.hbm, 318, rfl⟩
abbrev main_v147 : Ref sig .tc := ⟨.hbm, 319, rfl⟩
abbrev main_c_33 : Ref sig .tc := ⟨.hbm, 320, rfl⟩
abbrev main_call10_cst : Ref sig .tc := ⟨.hbm, 321, rfl⟩
abbrev main_call10_v0 : Ref sig .tc := ⟨.hbm, 322, rfl⟩
abbrev main_call10_v1 : Ref sig .tc := ⟨.hbm, 323, rfl⟩
abbrev main_call10_cst_0 : Ref sig .tc := ⟨.hbm, 324, rfl⟩
abbrev main_call10_v2 : Ref sig .tc := ⟨.hbm, 325, rfl⟩
abbrev main_call10_v3 : Ref sig .tc := ⟨.hbm, 326, rfl⟩
abbrev main_call10_v4 : Ref sig .tc := ⟨.hbm, 327, rfl⟩
abbrev main_call10_v5 : Ref sig .tc := ⟨.hbm, 328, rfl⟩
abbrev main_call10_v6 : Ref sig .tc := ⟨.hbm, 329, rfl⟩
abbrev main_call10_v7 : Ref sig .tc := ⟨.hbm, 330, rfl⟩
abbrev main_call10_cst_1 : Ref sig .tc := ⟨.hbm, 331, rfl⟩
abbrev main_call10_v8 : Ref sig .tc := ⟨.hbm, 332, rfl⟩
abbrev main_call10_cst_2 : Ref sig .tc := ⟨.hbm, 333, rfl⟩
abbrev main_call10_v9 : Ref sig .tc := ⟨.hbm, 334, rfl⟩
abbrev main_call10_v10 : Ref sig .tc := ⟨.hbm, 335, rfl⟩
abbrev main_call10_v11 : Ref sig .tc := ⟨.hbm, 336, rfl⟩
abbrev main_call10_v12 : Ref sig .tc := ⟨.hbm, 337, rfl⟩
abbrev main_call10_cst_3 : Ref sig .tc := ⟨.hbm, 338, rfl⟩
abbrev main_call10_v13 : Ref sig .tc := ⟨.hbm, 339, rfl⟩
abbrev main_call10_cst_4 : Ref sig .tc := ⟨.hbm, 340, rfl⟩
abbrev main_call10_call0_v0 : Ref sig .tc := ⟨.hbm, 341, rfl⟩
abbrev main_call10_call0_v1 : Ref sig .tc := ⟨.hbm, 342, rfl⟩
abbrev main_v148 : Ref sig .tc := ⟨.hbm, 343, rfl⟩
abbrev main_v149 : Ref sig .tc := ⟨.hbm, 344, rfl⟩
abbrev main_v150 : Ref sig .tc := ⟨.hbm, 345, rfl⟩
abbrev main_cst_34 : Ref sig .tc := ⟨.hbm, 346, rfl⟩
abbrev main_v151 : Ref sig .tc := ⟨.hbm, 347, rfl⟩
abbrev main_v152 : Ref sig .tc := ⟨.hbm, 348, rfl⟩
abbrev main_v153 : Ref sig .tc := ⟨.hbm, 349, rfl⟩
abbrev main_v154 : Ref sig .tc := ⟨.hbm, 350, rfl⟩
abbrev main_v155 : Ref sig .tc := ⟨.hbm, 351, rfl⟩
abbrev main_v156 : Ref sig .tc := ⟨.hbm, 352, rfl⟩
abbrev main_v157 : Ref sig .tc := ⟨.hbm, 353, rfl⟩
abbrev main_v158 : Ref sig .tc := ⟨.hbm, 354, rfl⟩
abbrev main_v159 : Ref sig .tc := ⟨.hbm, 355, rfl⟩
abbrev main_v160 : Ref sig .tc := ⟨.hbm, 356, rfl⟩
abbrev main_v161 : Ref sig .tc := ⟨.hbm, 357, rfl⟩
abbrev main_cst_35 : Ref sig .tc := ⟨.hbm, 358, rfl⟩
abbrev main_v162 : Ref sig .tc := ⟨.hbm, 359, rfl⟩
abbrev main_v163 : Ref sig .tc := ⟨.hbm, 360, rfl⟩
abbrev main_cst_36 : Ref sig .tc := ⟨.hbm, 361, rfl⟩
abbrev main_v164 : Ref sig .tc := ⟨.hbm, 362, rfl⟩
abbrev main_v165 : Ref sig .tc := ⟨.hbm, 363, rfl⟩
abbrev main_v166 : Ref sig .tc := ⟨.hbm, 364, rfl⟩
abbrev main_cst_37 : Ref sig .tc := ⟨.hbm, 365, rfl⟩
abbrev main_v167 : Ref sig .tc := ⟨.hbm, 366, rfl⟩

abbrev nD : Nat := 1
abbrev τ : Topo := Topo.v7x

variable {F : FTy → Type} [FloatOps F]
-- ==== Proof.Topk.lean ====
module

public import proofs.«01_k».proof.Proof.Gen.KernelIdeal.Loops
public import Idealize.ShloMosaic.Lib.WritesUnit
public import Idealize.ShloMosaic.Lib.Pointwise

/-! The nearest-point kernel's body. Its loop takes forty picks: trip `j` writes row `j` of the index block from the
    scores left in the scratch, then masks the picked scores. What the body leaves in the index block is stated as a
    plain function of its two input blocks (`rows` of the scores). -/

@[expose] public section

set_option maxRecDepth 8192
set_option maxHeartbeats 4000000

noncomputable section

namespace Cert.KernelIdeal.Topk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- The scores after `j` picks, from the scores `s`. -/
def scr (s : Vec F S256x1024 .f32) : ℕ → Vec F S256x1024 .f32
  | 0 => s
  | j + 1 => k0_pay4 (scr s j)

/-- The index block: row `j` holds the picks made from the scores after `j` picks. -/
def rows (s : Vec F S256x1024 .f32) : Vec F S1x40x256 .i32 :=
  fun y => k0_pay3 (scr s (y 1).val) (ix3 0 0 (y 2))

/-- The whole scratch as a rectangle. -/
abbrev R5 : Rect S256x1024 := Rect.unit (s := S256x1024) ![0, 0] S256x1024.size inb_S256x1024_S256x1024_0_0

/-- Row `k` of the index block as a rectangle. -/
abbrev R4 (k : Fin k0_t1_loop.trips) : Rect S1x40x256 :=
  Rect.unit (s := S1x40x256) (k0_off1 k) S1x1x256.size (k0_off1_inb k)

section
variable (arg4 : Memref sig .tc .vmem S1x40x256 .i32) (arg5 : Memref sig .tc .vmem S256x1024 .f32)

/-- The scratch buffer before trip `k`. -/
def acc5 (G : BufTy.Contents (Elt F) arg5.view.ty) : ℕ → BufTy.Contents (Elt F) arg5.view.ty
  | 0 => G
  | k + 1 => arg5.view.writes (Elt F) (acc5 G k) [⟨R5, k0_pay4 (View.readAt (Elt F) arg5.view R5.toLoadRect (acc5 G k))⟩]

/-- The index buffer before trip `k`. -/
def acc4 (H : BufTy.Contents (Elt F) arg4.view.ty) (G : BufTy.Contents (Elt F) arg5.view.ty) : ℕ → BufTy.Contents (Elt F) arg4.view.ty
  | 0 => H
  | k + 1 =>
    if h : k < k0_t1_loop.trips then
      arg4.view.writes (Elt F) (acc4 H G k) [⟨R4 ⟨k, h⟩, k0_pay3 (View.readAt (Elt F) arg5.view R5.toLoadRect (acc5 arg5 G k))⟩]
    else acc4 H G k

/-- A load of the whole scratch reads its contents. -/
theorem readAt_scratch (f : BufTy.Contents (Elt F) arg5.view.ty) :
    View.readAt (Elt F) arg5.view R5.toLoadRect f = arg5.view.read (Elt F) f := by
  rw [View.readAt_eq_ld]
  exact View.ld_unit_zero (by funext a; fin_cases a <;> rfl) _ _

/-- The scratch before trip `k` reads as the scores after `k` picks. -/
theorem read_acc5 (G : BufTy.Contents (Elt F) arg5.view.ty) (k : ℕ) :
    arg5.view.read (Elt F) (acc5 arg5 G k) = scr (arg5.view.read (Elt F) G) k := by
  induction k with
  | zero => rfl
  | succ k ih =>
    rw [acc5, scr, readAt_scratch, ih]
    funext y
    exact View.read_writes_cons_unit_of_mem _ _ _ _ _ y y rfl (by intro a; fin_cases a <;> exact (Nat.zero_add _).symm)

/-- Trip `k` stores at row `k`. -/
theorem off1_eq : ∀ k : Fin k0_t1_loop.trips, k0_off1 k = ![0, k.val, 0] := by decide +kernel

/-- The rows written before trip `k` hold the picks. -/
theorem read_acc4 (H : BufTy.Contents (Elt F) arg4.view.ty) (G : BufTy.Contents (Elt F) arg5.view.ty) (k : ℕ)
    (hk : k ≤ 40) (y : S1x40x256.Idx) (hy : (y 1).val < k) :
    arg4.view.read (Elt F) (acc4 arg4 arg5 H G k) y = rows (arg5.view.read (Elt F) G) y := by
  induction k with
  | zero => exact absurd hy (Nat.not_lt_zero _)
  | succ k ih =>
    have h : k < k0_t1_loop.trips := Nat.lt_of_lt_of_eq hk (by decide +kernel)
    rw [acc4, dif_pos h, readAt_scratch, read_acc5]
    have e : k0_off1 ⟨k, h⟩ = ![0, k, 0] := off1_eq ⟨k, h⟩
    by_cases hyk : (y 1).val = k
    · refine (View.read_writes_cons_unit_of_mem _ _ _ _ _ y (ix3 (n0 := 1) (n1 := 1) (n2 := 256) 0 0 (y 2)) e
        (by intro a; fin_cases a
            · have := (y 0).isLt; show (y 0).val = 0 + 0; change (y 0).val < 1 at this; omega
            · show (y 1).val = k + 0; omega
            · show (y 2).val = 0 + (y 2).val; omega)).trans ?_
      rw [rows, hyk]
    · rw [View.read_writes_cons_unit_of_not_mem _ _ _ _ _ y e 1 (by left; show (y 1).val < k; omega)]
      exact ih (by omega) (by omega)

end

/-- What a trip holds: the index block and the scratch, each whole. -/
abbrev Both (c : Dev nD) (arg4 : Memref sig .tc .vmem S1x40x256 .i32) (arg5 : Memref sig .tc .vmem S256x1024 .f32) (f_arg4 : BufTy.Contents (Elt F) arg4.view.ty) (f_arg5 : BufTy.Contents (Elt F) arg5.view.ty) : sProp 𝕄G :=
  iprop((arg4.view.loc (c : Thread nD τ) ↦[arg4.view.set]{fullShare} f_arg4) ∗ (arg5.view.loc (c : Thread nD τ) ↦[arg5.view.set]{fullShare} f_arg5))

/-- One trip of the loop. -/
theorem trip (𝒱 : Variants) (c : Dev nD) (bd : Option 𝒱.V) (i : grid0.Coords) (arg2 : Memref sig .tc .vmem S1x64x1024 .f32) (harg2 : arg2.IsWhole) (arg3 : Memref sig .tc .vmem S1x64x256 .f32) (harg3 : arg3.IsWhole) (arg4 : Memref sig .tc .vmem S1x40x256 .i32) (harg4 : arg4.IsWhole) (arg5 : Memref sig .tc .vmem S256x1024 .f32) (harg5 : arg5.IsWhole) (k : Fin k0_t1_loop.trips)
    (E : Set ℕ) (f_arg4 : BufTy.Contents (Elt F) arg4.view.ty) (f_arg5 : BufTy.Contents (Elt F) arg5.view.ty) :
    Both (F := F) c arg4 arg5 f_arg4 f_arg5
      ⊢ wp frame (wpE (defs₀ (F := F)) 𝒱 (c : Thread nD τ) bd) E (k0_t1_body (F := F) i arg2 harg2 arg3 harg3 arg4 harg4 arg5 harg5 k PUnit.unit)
          (fun _ => Both (F := F) c arg4 arg5
            (arg4.view.writes (Elt F) f_arg4 [⟨R4 k, k0_pay3 (View.readAt (Elt F) arg5.view R5.toLoadRect f_arg5)⟩])
            (arg5.view.writes (Elt F) f_arg5 [⟨R5, k0_pay4 (View.readAt (Elt F) arg5.view R5.toLoadRect f_arg5)⟩])) := by
  have hk : k.val < 40 := Nat.lt_of_lt_of_le k.isLt k0_t1_abs.2.1
  unfold k0_t1_body
  iintro ⟨HW_arg4, HW_arg5⟩
  sl_exec
  sl_step
  sl_close

set_option warn.classDefReducibility false in
/-- The loop by its invariant: before trip `k` the two buffers hold `acc4` and `acc5`. -/
@[sl_loop] def loopInv (𝒱 : Variants) (c : Dev nD) (bd : Option 𝒱.V) (E : Set ℕ) (i : grid0.Coords) (arg2 : Memref sig .tc .vmem S1x64x1024 .f32) (harg2 : arg2.IsWhole) (arg3 : Memref sig .tc .vmem S1x64x256 .f32) (harg3 : arg3.IsWhole) (arg4 : Memref sig .tc .vmem S1x40x256 .i32) (harg4 : arg4.IsWhole) (arg5 : Memref sig .tc .vmem S256x1024 .f32) (harg5 : arg5.IsWhole)
    (H : BufTy.Contents (Elt F) arg4.view.ty) (G : BufTy.Contents (Elt F) arg5.view.ty) :
    LoopInvTy_k0_t1 (F := F) Unit ℕ (UR sig nD τ) ℕ 𝒱 c bd E i arg2 harg2 arg3 harg3 arg4 harg4 arg5 harg5 where
  inv k _ := iprop((∃ f, (arg4.view.loc (c : Thread nD τ) ↦[arg4.view.set]{fullShare} f) ∗ ⌜f = acc4 arg4 arg5 H G k⌝)
    ∗ (∃ f, (arg5.view.loc (c : Thread nD τ) ↦[arg5.view.set]{fullShare} f) ∗ ⌜f = acc5 arg5 G k⌝))
  step k acc := by
    iintro ⟨⟨%f_arg4, HW_arg4, %h_arg4⟩, ⟨%f_arg5, HW_arg5, %h_arg5⟩⟩
    iapply (wp_wand_r Idealize.ShloMosaic.frame (wpE (defs₀ (F := F)) 𝒱 (c : Thread nD τ) bd) E)
    isplitl [HW_arg4 HW_arg5]
    · iapply (trip (F := F) 𝒱 c bd i arg2 harg2 arg3 harg3 arg4 harg4 arg5 harg5 k E f_arg4 f_arg5)
      isplitl [HW_arg4]; · iexact HW_arg4
      iexact HW_arg5
    · iintro %_ ⟨HW_arg4, HW_arg5⟩
      isplitl [HW_arg4]
      · iexists _; isplitl [HW_arg4]; · iexact HW_arg4
        ipureintro; rw [acc4, dif_pos k.isLt, h_arg4, h_arg5]
      iexists _; isplitl [HW_arg5]; · iexact HW_arg5
      ipureintro; rw [acc5, h_arg5]

/-- The body: from the two input blocks it leaves the index block at the picks of their scores. -/
theorem body (c : Dev nD) (i : grid0.Coords) (arg2 : Memref sig .tc .vmem S1x64x1024 .f32) (harg2 : arg2.IsWhole) (arg3 : Memref sig .tc .vmem S1x64x256 .f32) (harg3 : arg3.IsWhole) (arg4 : Memref sig .tc .vmem S1x40x256 .i32) (harg4 : arg4.IsWhole) (arg5 : Memref sig .tc .vmem S256x1024 .f32) (harg5 : arg5.IsWhole)
    (x0 : Vec F S1x64x1024 .f32) (x1 : Vec F S1x64x256 .f32) (E : Set ℕ) (K : PUnit → sProp 𝕄G) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (rows (k0_pay1 x0 x1)) ∗ (∃ d, owns (c : Thread nD τ) arg5 fullShare d)) -∗ K ⟨⟩))
      ⊢ wp frame (wpE (defs₀ (F := F)) Variants.none c none) E (cc0__topk_body i arg2 harg2 arg3 harg3 arg4 harg4 arg5 harg5) K := by
  simp only [cc0__topk_body_eq_skeleton]; unfold cc0__topk_body_skel
  unfold owns
  iintro ⟨⟨%f0, %hf0, H0⟩, ⟨%f1, %hf1, H1⟩, ⟨%d2, %f2, -, H2⟩, ⟨%ds0, %fs0, -, HS0⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    funext y
    refine (read_acc4 arg4 arg5 _ _ _ (by decide +kernel) y (Nat.lt_of_lt_of_eq (y 1).isLt (by decide +kernel))).trans ?_
    refine congrArg (fun s => rows s y) ?_
    rw [View.readAt_eq_ld, View.readAt_eq_ld, hf0, hf1, View.ld_unit_zero (by funext a; fin_cases a <;> rfl),
      View.ld_unit_zero (by funext a; fin_cases a <;> rfl)]
    funext z
    exact View.read_writes_cons_unit_of_mem _ _ _ _ [] z z rfl (by intro a; fin_cases a <;> exact (Nat.zero_add _).symm)
  iexists _, _; isplitr; swap; · iexact HS0
  ipureintro; rfl

end Cert.KernelIdeal.Topk
-- ==== Proof.Gather.lean ====
module

public import proofs.«01_k».proof.Proof.Gen.KernelIdeal.Loops
public import Idealize.ShloMosaic.Lib.WritesUnit
public import Idealize.ShloMosaic.Lib.Pointwise

/-! The gathering kernel's body. Its loop folds the index rows into three scratch buffers (maximum, sum, sum of
    squares); after the loop the body stores the maximum whole and a block of statistics column by column. Both outputs
    are stated as plain functions of the three input blocks. -/

@[expose] public section

set_option maxRecDepth 8192
set_option maxHeartbeats 4000000

noncomputable section

namespace Cert.KernelIdeal.Gather

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄G" => MT nD τ sig Unit (Elt F) ℕ (UR sig nD τ) ℕ

/-- Row `k` of the index block. -/
def row (x0 : Vec F S1x40x1024 .i32) (k : ℕ) : Vec F S1x1x1024 .i32 :=
  fun y => x0 (ix3 0 (Fin.ofNat 40 k) (y 2))

/-- The first `k` rows folded into a scratch by one update. -/
def fold (upd : Vec F S1x1x1024 .i32 → Vec F S128x1024 .f32 → Vec F S128x1024 .f32) (x0 : Vec F S1x40x1024 .i32)
    (s : Vec F S128x1024 .f32) : ℕ → Vec F S128x1024 .f32
  | 0 => s
  | k + 1 => upd (row x0 k) (fold upd x0 s k)

/-- The number of rows folded at a grid point: 10, 20 or 40 by the first coordinate. -/
def count (i : grid2.Coords) : ℕ := 10 * 2 ^ (i 0).val

/-- The maximum over the rows. -/
def mx (i : grid2.Coords) (x0 : Vec F S1x40x1024 .i32) (x1 : Vec F S1x128x1024 .f32) : Vec F S128x1024 .f32 :=
  fold (k2_pay9 x1) x0 k2_pay5 (count i)
/-- The sum over the rows. -/
def sm (i : grid2.Coords) (x0 : Vec F S1x40x1024 .i32) (x1 : Vec F S1x128x1024 .f32) : Vec F S128x1024 .f32 :=
  fold (k2_pay10 x1) x0 k2_pay6 (count i)
/-- The sum of squares over the rows. -/
def sq (i : grid2.Coords) (x0 : Vec F S1x40x1024 .i32) (x1 : Vec F S1x128x1024 .f32) : Vec F S128x1024 .f32 :=
  fold (k2_pay11 x1) x0 k2_pay7 (count i)

/-- The block of statistics: five columns of sums, then zeros. -/
def stats (v4 s q : Vec F S128x1024 .f32) : Vec F S1x1x128x8 .f32 := fun y =>
  match (y 3).val with
  | 0 => k2_pay17 q (ix4 0 0 (y 2) 0)
  | 1 => k2_pay18 s (ix4 0 0 (y 2) 0)
  | 2 => k2_pay19 v4 s (ix4 0 0 (y 2) 0)
  | 3 => k2_pay20 v4 (ix4 0 0 (y 2) 0)
  | 4 => k2_pay1 (k2_pay21 v4) (ix4 0 0 (y 2) 0)
  | _ => Scalar.ofBits .f32 0x00000000#32

/-- A whole scratch as a rectangle. -/
abbrev R : Rect S128x1024 := Rect.unit (s := S128x1024) ![0, 0] S128x1024.size inb_S128x1024_S128x1024_0_0

/-- Row `k` of the index block as a rectangle. -/
abbrev Rrow (i : grid2.Coords) (k : Fin (k2_t1_loop i).trips) : Rect S1x40x1024 :=
  Rect.unit (s := S1x40x1024) (k2_off1 i k) S1x1x1024.size (k2_off1_inb i k)

/-- The loop runs over all the rows folded. -/
theorem trips_eq : ∀ i : grid2.Coords, (k2_t1_loop i).trips = count i := by
  unfold count; decide +kernel

/-- The remainder loop is empty. -/
theorem trips2_eq : ∀ i : grid2.Coords, (k2_t2_loop i).trips = 0 := by decide +kernel

/-- At most 40 rows are folded. -/
theorem count_le : ∀ i : grid2.Coords, count i ≤ 40 := by unfold count; decide +kernel

/-- Trip `k` reads row `k`. -/
theorem off1_eq : ∀ (i : grid2.Coords) (k : Fin (k2_t1_loop i).trips), k2_off1 i k = ![0, k.val, 0] := by decide +kernel

section
variable (i : grid2.Coords) (arg2 : Memref sig .tc .vmem S1x40x1024 .i32) (arg : Memref sig .tc .vmem S128x1024 .f32)
  (upd : Vec F S1x1x1024 .i32 → Vec F S128x1024 .f32 → Vec F S128x1024 .f32)

/-- A scratch buffer before trip `k`, each trip folding one row by `upd`. -/
def acc (X : BufTy.Contents (Elt F) arg2.view.ty) (G : BufTy.Contents (Elt F) arg.view.ty) : ℕ → BufTy.Contents (Elt F) arg.view.ty
  | 0 => G
  | k + 1 =>
    if h : k < (k2_t1_loop i).trips then
      arg.view.writes (Elt F) (acc X G k)
        [⟨R, upd (View.readAt (Elt F) arg2.view (Rrow i ⟨k, h⟩).toLoadRect X) (View.readAt (Elt F) arg.view R.toLoadRect (acc X G k))⟩]
    else acc X G k

/-- A load of a whole scratch reads its contents. -/
theorem readAt_scratch (f : BufTy.Contents (Elt F) arg.view.ty) :
    View.readAt (Elt F) arg.view R.toLoadRect f = arg.view.read (Elt F) f := by
  rw [View.readAt_eq_ld]
  exact View.ld_unit_zero (by funext a; fin_cases a <;> rfl) _ _

/-- A load of row `k` reads it. -/
theorem readAt_row (X : BufTy.Contents (Elt F) arg2.view.ty) (k : Fin (k2_t1_loop i).trips) :
    View.readAt (Elt F) arg2.view (Rrow i k).toLoadRect X = row (arg2.view.read (Elt F) X) k.val := by
  rw [View.readAt_eq_ld]
  funext y
  refine congrArg (arg2.view.read (Elt F) X) ?_
  have hk : k.val < 40 := Nat.lt_of_lt_of_le k.isLt ((trips_eq i).trans_le (count_le i))
  have e := off1_eq i k
  have y0 : (y 0).val < 1 := (y 0).isLt
  have y1 : (y 1).val < 1 := (y 1).isLt
  funext a
  refine Fin.ext ?_
  fin_cases a
  · show k2_off1 i k 0 + 1 * (y 0).val = 0
    rw [e]; show 0 + 1 * (y 0).val = 0; omega
  · show k2_off1 i k 1 + 1 * (y 1).val = k.val % 40
    rw [e, Nat.mod_eq_of_lt hk]; show k.val + 1 * (y 1).val = k.val; omega
  · show k2_off1 i k 2 + 1 * (y 2).val = (y 2).val
    rw [e]; show 0 + 1 * (y 2).val = (y 2).val; omega

/-- What a whole store leaves is its payload. -/
theorem read_store (G : BufTy.Contents (Elt F) arg.view.ty) (p : Vec F S128x1024 .f32) (L : List (View.Piece (Elt F) S128x1024 .f32)) :
    arg.view.read (Elt F) (arg.view.writes (Elt F) G (⟨R, p⟩ :: L)) = p := by
  funext y
  exact View.read_writes_cons_unit_of_mem _ _ _ _ _ y y rfl (by intro a; fin_cases a <;> exact (Nat.zero_add _).symm)

/-- A scratch before trip `k` reads as the fold of the first `k` rows. -/
theorem read_acc (X : BufTy.Contents (Elt F) arg2.view.ty) (G : BufTy.Contents (Elt F) arg.view.ty) (k : ℕ) (hk : k ≤ (k2_t1_loop i).trips) :
    arg.view.read (Elt F) (acc i arg2 arg upd X G k) = fold upd (arg2.view.read (Elt F) X) (arg.view.read (Elt F) G) k := by
  induction k with
  | zero => rfl
  | succ k ih =>
    rw [acc, dif_pos (show k < (k2_t1_loop i).trips from hk), fold, readAt_scratch, readAt_row, ih (Nat.le_of_succ_le hk)]
    exact read_store arg _ _ _

end

/-- What a trip holds: the index block and the three scratch buffers, each whole. -/
abbrev Four (c : Dev nD) (arg2 : Memref sig .tc .vmem S1x40x1024 .i32) (arg7 arg8 arg9 : Memref sig .tc .vmem S128x1024 .f32) (X : BufTy.Contents (Elt F) arg2.view.ty) (f7 : BufTy.Contents (Elt F) arg7.view.ty) (f8 : BufTy.Contents (Elt F) arg8.view.ty) (f9 : BufTy.Contents (Elt F) arg9.view.ty) : sProp 𝕄G :=
  iprop((arg2.view.loc (c : Thread nD τ) ↦[arg2.view.set]{fullShare} X) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

/-- One trip of the loop. -/
theorem trip (𝒱 : Variants) (c : Dev nD) (bd : Option 𝒱.V) (i : grid2.Coords) (arg2 : Memref sig .tc .vmem S1x40x1024 .i32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S1x1x128x1024 .f32) (harg5 : arg5.IsWhole) (arg6 : Memref sig .tc .vmem S1x1x128x8 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole)
    (v1 : Vec F S1x128x1024 .f32) (k : Fin (k2_t1_loop i).trips) (a : BitVec 32) (E : Set ℕ)
    (X : BufTy.Contents (Elt F) arg2.view.ty) (f7 : BufTy.Contents (Elt F) arg7.view.ty) (f8 : BufTy.Contents (Elt F) arg8.view.ty) (f9 : BufTy.Contents (Elt F) arg9.view.ty) :
    Four (F := F) c arg2 arg7 arg8 arg9 X f7 f8 f9
      ⊢ wp frame (wpE (defs₀ (F := F)) 𝒱 (c : Thread nD τ) bd) E (k2_t1_body (F := F) i arg2 harg2 arg3 harg3 arg4 harg4 arg5 harg5 arg6 harg6 arg7 harg7 arg8 harg8 arg9 harg9 v1 k a)
          (fun _ => Four (F := F) c arg2 arg7 arg8 arg9 X
            (arg7.view.writes (Elt F) f7 [⟨R, k2_pay9 v1 (View.readAt (Elt F) arg2.view (Rrow i k).toLoadRect X) (View.readAt (Elt F) arg7.view R.toLoadRect f7)⟩])
            (arg8.view.writes (Elt F) f8 [⟨R, k2_pay10 v1 (View.readAt (Elt F) arg2.view (Rrow i k).toLoadRect X) (View.readAt (Elt F) arg8.view R.toLoadRect f8)⟩])
            (arg9.view.writes (Elt F) f9 [⟨R, k2_pay11 v1 (View.readAt (Elt F) arg2.view (Rrow i k).toLoadRect X) (View.readAt (Elt F) arg9.view R.toLoadRect f9)⟩])) := by
  unfold k2_t1_body
  iintro ⟨H2, H7, H8, H9⟩
  sl_exec
  sl_step
  sl_close

set_option warn.classDefReducibility false in
/-- The loop by its invariant: before trip `k` each scratch holds `acc` of its update. -/
@[sl_loop] def loopInv (𝒱 : Variants) (c : Dev nD) (bd : Option 𝒱.V) (E : Set ℕ) (i : grid2.Coords) (arg2 : Memref sig .tc .vmem S1x40x1024 .i32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S1x1x128x1024 .f32) (harg5 : arg5.IsWhole) (arg6 : Memref sig .tc .vmem S1x1x128x8 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole)
    (v1 : Vec F S1x128x1024 .f32) (init : BitVec 32)
    (X : BufTy.Contents (Elt F) arg2.view.ty) (G7 : BufTy.Contents (Elt F) arg7.view.ty) (G8 : BufTy.Contents (Elt F) arg8.view.ty) (G9 : BufTy.Contents (Elt F) arg9.view.ty) :
    LoopInvTy_k2_t1 (F := F) Unit ℕ (UR sig nD τ) ℕ 𝒱 c bd E i arg2 harg2 arg3 harg3 arg4 harg4 arg5 harg5 arg6 harg6 arg7 harg7 arg8 harg8 arg9 harg9 v1 init where
  inv k _ := iprop((arg2.view.loc (c : Thread nD τ) ↦[arg2.view.set]{fullShare} X)
    ∗ (∃ f, (arg7.view.loc (c : Thread nD τ) ↦[arg7.view.set]{fullShare} f) ∗ ⌜f = acc i arg2 arg7 (k2_pay9 v1) X G7 k⌝)
    ∗ (∃ f, (arg8.view.loc (c : Thread nD τ) ↦[arg8.view.set]{fullShare} f) ∗ ⌜f = acc i arg2 arg8 (k2_pay10 v1) X G8 k⌝)
    ∗ (∃ f, (arg9.view.loc (c : Thread nD τ) ↦[arg9.view.set]{fullShare} f) ∗ ⌜f = acc i arg2 arg9 (k2_pay11 v1) X G9 k⌝))
  step k a := by
    iintro ⟨H2, ⟨%f7, H7, %h7⟩, ⟨%f8, H8, %h8⟩, ⟨%f9, H9, %h9⟩⟩
    iapply (wp_wand_r Idealize.ShloMosaic.frame (wpE (defs₀ (F := F)) 𝒱 (c : Thread nD τ) bd) E)
    isplitl [H2 H7 H8 H9]
    · iapply (trip (F := F) 𝒱 c bd i arg2 harg2 arg3 harg3 arg4 harg4 arg5 harg5 arg6 harg6 arg7 harg7 arg8 harg8 arg9 harg9 v1 k a E X f7 f8 f9)
      isplitl [H2]; · iexact H2
      isplitl [H7]; · iexact H7
      isplitl [H8]; · iexact H8
      iexact H9
    · iintro %_ ⟨H2, H7, H8, H9⟩
      isplitl [H2]; · iexact H2
      isplitl [H7]
      · iexists _; isplitl [H7]; · iexact H7
        ipureintro; rw [acc, dif_pos k.isLt, h7]
      isplitl [H8]
      · iexists _; isplitl [H8]; · iexact H8
        ipureintro; rw [acc, dif_pos k.isLt, h8]
      iexists _; isplitl [H9]; · iexact H9
      ipureintro; rw [acc, dif_pos k.isLt, h9]

set_option warn.classDefReducibility false in
/-- The empty remainder loop changes nothing. -/
@[sl_loop] def loopInv2 (𝒱 : Variants) (c : Dev nD) (bd : Option 𝒱.V) (E : Set ℕ) (i : grid2.Coords) (arg2 : Memref sig .tc .vmem S1x40x1024 .i32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S1x1x128x1024 .f32) (harg5 : arg5.IsWhole) (arg6 : Memref sig .tc .vmem S1x1x128x8 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole)
    (v1 : Vec F S1x128x1024 .f32) (init : BitVec 32)
    (X : BufTy.Contents (Elt F) arg2.view.ty) (G7 : BufTy.Contents (Elt F) arg7.view.ty) (G8 : BufTy.Contents (Elt F) arg8.view.ty) (G9 : BufTy.Contents (Elt F) arg9.view.ty) :
    LoopInvTy_k2_t2 (F := F) Unit ℕ (UR sig nD τ) ℕ 𝒱 c bd E i arg2 harg2 arg3 harg3 arg4 harg4 arg5 harg5 arg6 harg6 arg7 harg7 arg8 harg8 arg9 harg9 v1 init where
  inv k _ := iprop((arg2.view.loc (c : Thread nD τ) ↦[arg2.view.set]{fullShare} X)
    ∗ (arg7.view.loc (c : Thread nD τ) ↦[arg7.view.set]{fullShare} G7)
    ∗ (arg8.view.loc (c : Thread nD τ) ↦[arg8.view.set]{fullShare} G8)
    ∗ (arg9.view.loc (c : Thread nD τ) ↦[arg9.view.set]{fullShare} G9))
  step k a := (Nat.not_lt_zero _ (Nat.lt_of_lt_of_eq k.isLt (trips2_eq i))).elim

/-- A load of a scratch after the loop reads the fold of all the rows. -/
theorem readAt_final (i : grid2.Coords) (arg2 : Memref sig .tc .vmem S1x40x1024 .i32) (arg : Memref sig .tc .vmem S128x1024 .f32)
    (upd : Vec F S1x1x1024 .i32 → Vec F S128x1024 .f32 → Vec F S128x1024 .f32)
    (X : BufTy.Contents (Elt F) arg2.view.ty) (G : BufTy.Contents (Elt F) arg.view.ty) {x0 : Vec F S1x40x1024 .i32} {s : Vec F S128x1024 .f32}
    (hX : arg2.view.read (Elt F) X = x0) (hG : arg.view.read (Elt F) G = s) :
    View.readAt (Elt F) arg.view R.toLoadRect (acc i arg2 arg upd X G (Scf.trips (k2_t1_loop i).lb (k2_t1_loop i).ub (k2_t1_loop i).st)) = fold upd x0 s (count i) := by
  change View.readAt (Elt F) arg.view R.toLoadRect (acc i arg2 arg upd X G (k2_t1_loop i).trips) = _
  rw [readAt_scratch, read_acc i arg2 arg upd X G _ (Nat.le_refl _), trips_eq, hX, hG]

/-- A load of a whole input block reads it. -/
theorem readAt_block (arg : Memref sig .tc .vmem S1x128x1024 .f32) (f : BufTy.Contents (Elt F) arg.view.ty) {x : Vec F S1x128x1024 .f32}
    (h : arg.view.read (Elt F) f = x) :
    View.readAt (Elt F) arg.view (Rect.unit (s := S1x128x1024) ![0, 0, 0] S1x128x1024.size inb_S1x128x1024_S1x128x1024_0_0_0).toLoadRect f = x := by
  rw [View.readAt_eq_ld, h]
  exact View.ld_unit_zero (by funext a; fin_cases a <;> rfl) _ _

/-- The block of statistics column by column: what its six stores leave. -/
theorem read_columns (arg : Memref sig .tc .vmem S1x1x128x8 .f32) (f : BufTy.Contents (Elt F) arg.view.ty)
    (p0 p1 p2 p3 p4 : Vec F S1x1x128x1 .f32) (p5 : Vec F S1x1x128x3 .f32) (z : Elt F .f32) (hz : ∀ y, p5 y = z) (y : S1x1x128x8.Idx) :
    arg.view.read (Elt F) (arg.view.writes (Elt F) f
        [⟨Rect.unit (s := S1x1x128x8) ![0, 0, 0, 5] S1x1x128x3.size inb_S1x1x128x8_S1x1x128x3_0_0_0_5, p5⟩,
          ⟨Rect.unit (s := S1x1x128x8) ![0, 0, 0, 4] S1x1x128x1.size inb_S1x1x128x8_S1x1x128x1_0_0_0_4, p4⟩,
          ⟨Rect.unit (s := S1x1x128x8) ![0, 0, 0, 3] S1x1x128x1.size inb_S1x1x128x8_S1x1x128x1_0_0_0_3, p3⟩,
          ⟨Rect.unit (s := S1x1x128x8) ![0, 0, 0, 2] S1x1x128x1.size inb_S1x1x128x8_S1x1x128x1_0_0_0_2, p2⟩,
          ⟨Rect.unit (s := S1x1x128x8) ![0, 0, 0, 1] S1x1x128x1.size inb_S1x1x128x8_S1x1x128x1_0_0_0_1, p1⟩,
          ⟨Rect.unit (s := S1x1x128x8) ![0, 0, 0, 0] S1x1x128x1.size inb_S1x1x128x8_S1x1x128x1_0_0_0_0, p0⟩]) y
      = match (y 3).val with
        | 0 => p0 (ix4 0 0 (y 2) 0)
        | 1 => p1 (ix4 0 0 (y 2) 0)
        | 2 => p2 (ix4 0 0 (y 2) 0)
        | 3 => p3 (ix4 0 0 (y 2) 0)
        | 4 => p4 (ix4 0 0 (y 2) 0)
        | _ => z := by
  have y0 : (y 0).val < 1 := (y 0).isLt
  have y1 : (y 1).val < 1 := (y 1).isLt
  have y3 : (y 3).val < 8 := (y 3).isLt
  have hit : ∀ (o : ℕ) (p : Vec F S1x1x128x1 .f32) (inb : ∀ a, (![0, 0, 0, o] : Fin 4 → ℕ) a + S1x1x128x1.size a ≤ S1x1x128x8.size a)
      (L : List (View.Piece (Elt F) S1x1x128x8 .f32)), (y 3).val = o →
      arg.view.read (Elt F) (arg.view.writes (Elt F) f (⟨Rect.unit (s := S1x1x128x8) ![0, 0, 0, o] S1x1x128x1.size inb, p⟩ :: L)) y
        = p (ix4 0 0 (y 2) 0) := fun o p inb L h =>
    View.read_writes_cons_unit_of_mem _ _ _ _ _ y (ix4 (n0 := 1) (n1 := 1) (n2 := 128) (n3 := 1) 0 0 (y 2) 0) rfl (by
      intro a; fin_cases a
      · show (y 0).val = 0 + 0; omega
      · show (y 1).val = 0 + 0; omega
      · show (y 2).val = 0 + (y 2).val; omega
      · show (y 3).val = o + 0; omega)
  have miss : ∀ (o : ℕ) (p : Vec F S1x1x128x1 .f32) (inb : ∀ a, (![0, 0, 0, o] : Fin 4 → ℕ) a + S1x1x128x1.size a ≤ S1x1x128x8.size a)
      (L : List (View.Piece (Elt F) S1x1x128x8 .f32)), (y 3).val < o →
      arg.view.read (Elt F) (arg.view.writes (Elt F) f (⟨Rect.unit (s := S1x1x128x8) ![0, 0, 0, o] S1x1x128x1.size inb, p⟩ :: L)) y
        = arg.view.read (Elt F) (arg.view.writes (Elt F) f L) y := fun o p inb L h =>
    View.read_writes_cons_unit_of_not_mem _ _ _ _ _ y rfl 3 (.inl h)
  by_cases h5 : 5 ≤ (y 3).val
  · refine (View.read_writes_cons_unit_of_mem _ _ _ _ _ y (ix4 (n0 := 1) (n1 := 1) (n2 := 128) (n3 := 3) 0 0 (y 2) ⟨(y 3).val - 5, by omega⟩) rfl (by
      intro a; fin_cases a
      · show (y 0).val = 0 + 0; omega
      · show (y 1).val = 0 + 0; omega
      · show (y 2).val = 0 + (y 2).val; omega
      · show (y 3).val = 5 + ((y 3).val - 5); omega)).trans ?_
    rw [hz]
    split <;> first | omega | rfl
  · refine (View.read_writes_cons_unit_of_not_mem _ _ _ _ _ y rfl 3 (.inl (show (y 3).val < 5 by omega))).trans ?_
    split
    · next h => rw [miss 4 _ _ _ (by omega), miss 3 _ _ _ (by omega), miss 2 _ _ _ (by omega), miss 1 _ _ _ (by omega), hit 0 _ _ _ h]
    · next h => rw [miss 4 _ _ _ (by omega), miss 3 _ _ _ (by omega), miss 2 _ _ _ (by omega), hit 1 _ _ _ h]
    · next h => rw [miss 4 _ _ _ (by omega), miss 3 _ _ _ (by omega), hit 2 _ _ _ h]
    · next h => rw [miss 4 _ _ _ (by omega), hit 3 _ _ _ h]
    · next h => rw [hit 4 _ _ _ h]
    · next h0 h1 h2 h3 h4 =>
      have h : (y 3).val = 0 ∨ (y 3).val = 1 ∨ (y 3).val = 2 ∨ (y 3).val = 3 ∨ (y 3).val = 4 := by omega
      rcases h with h | h | h | h | h
      exacts [(h0 h).elim, (h1 h).elim, (h2 h).elim, (h3 h).elim, (h4 h).elim]

/-- The body: from the three input blocks it leaves the maximum and the statistics. -/
theorem body (c : Dev nD) (i : grid2.Coords) (arg2 : Memref sig .tc .vmem S1x40x1024 .i32) (harg2 : arg2.IsWhole) (arg3 : Memref sig .tc .vmem S1x128x1024 .f32) (harg3 : arg3.IsWhole) (arg4 : Memref sig .tc .vmem S1x128x1024 .f32) (harg4 : arg4.IsWhole) (arg5 : Memref sig .tc .vmem S1x1x128x1024 .f32) (harg5 : arg5.IsWhole) (arg6 : Memref sig .tc .vmem S1x1x128x8 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S128x1024 .f32) (harg9 : arg9.IsWhole)
    (x0 : Vec F S1x40x1024 .i32) (x1 : Vec F S1x128x1024 .f32) (x2 : Vec F S1x128x1024 .f32) (E : Set ℕ) (K : PUnit → sProp 𝕄G) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k2_pay16 (mx i x0 x1)) ∗ owns (c : Thread nD τ) arg6 fullShare (stats (k2_pay4 x2) (sm i x0 x1) (sq i x0 x1))
            ∗ (∃ d, owns (c : Thread nD τ) arg7 fullShare d) ∗ (∃ d, owns (c : Thread nD τ) arg8 fullShare d) ∗ (∃ d, owns (c : Thread nD τ) arg9 fullShare d)) -∗ K ⟨⟩))
      ⊢ wp frame (wpE (defs₀ (F := F)) Variants.none c none) E (cc2__gather_body i arg2 harg2 arg3 harg3 arg4 harg4 arg5 harg5 arg6 harg6 arg7 harg7 arg8 harg8 arg9 harg9) K := by
  have htr := trips2_eq i
  simp only [cc2__gather_body_eq_skeleton]; unfold cc2__gather_body_skel
  simp only [k2_part1_eq_skeleton, k2_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    funext y
    refine (View.read_writes_cons_unit_of_mem _ _ _ _ _ y y rfl (by intro a; fin_cases a <;> exact (Nat.zero_add _).symm)).trans ?_
    refine congrArg (fun s => k2_pay16 s y) ?_
    unfold body.sl.v25
    rw [readAt_block arg3 _ hf1]
    exact readAt_final i arg2 arg7 _ _ _ hf0 (read_store arg7 _ _ _)
  isplitl [H4]
  · iexists _; isplitr
    swap; · iexact H4
    ipureintro
    unfold body.sl.v29 body.sl.v30 body.sl.r_1
    unfold body.sl.r
    rw [readAt_block arg4 _ hf2, readAt_block arg3 _ hf1,
      readAt_final i arg2 arg8 (k2_pay10 x1) _ _ (s := k2_pay6) hf0,
      readAt_final i arg2 arg9 (k2_pay11 x1) _ _ (s := k2_pay7) hf0]
    rotate_left
    · exact read_store arg9 _ _ _
    · exact read_store arg8 _ _ _
    funext y
    refine (read_columns arg6 f4 _ _ _ _ _ _ (Scalar.ofBits .f32 0x00000000#32) (fun _ => rfl) y).trans ?_
    rfl
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Gather
-- ==== Proof.Run.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Topk
public import proofs.«01_k».proof.Proof.Gather
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The run of the kernel's program: four pipelined regions among stretches of host operations. For each region, the
    blocks its windows stage, what its body leaves in the output blocks, and the body's obligation; then the buffer
    contents at every boundary (`W0` … `W8`), the regions as segments, and the launch. -/

@[expose] public section

-- membership in a rectangle of production extents (`View.cover_of_tiled`): the elaborator's structural look
-- recurses once per coordinate of the long axes
set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__topk_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- Each window's current staging memref at point `t`, spelled as the pipeline passes it (`bodyAt0`), and its wholeness. -/
abbrev ms0_0 (t : Fin cfg0.N) : Memref sig .tc .vmem S1x64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x64x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x40x256 .i32 := win0_2.stage (cfg0.slots t 2)
abbrev hs0_2 (t : Fin cfg0.N) : (ms0_2 t).IsWhole := hstage0_2 ((cfg0.slots t 2).cast nbuf0_2)
/-- The scratch operands: whole scoped buffers of the kernel's own, passed beside the windows. -/
abbrev scM0_0 : Memref sig .tc .vmem S256x1024 .f32 := Memref.whole cc0_scratch0

/-- `Gen.scopedRest0_split` as ONE chain: the kernel's own scratch buffers, each whole at some contents, then every
    other scoped buffer, unopened (`Pipeline.scopedRestBut`). -/
theorem scopedRest0_flat (c : Dev nD) :
    (Pipeline.scopedRest spec0 c : sProp 𝕄)
      = iprop((∃ f : Buf (Elt F) ((c : Thread nD τ).loc cc0_scratch0), ((c : Thread nD τ).loc cc0_scratch0) ↦{fullShare} f) ∗ Pipeline.scopedRestBut spec0 c [cc0_scratch0]) := by
  rw [scopedRest0_split]

/-- The frame kit's invariant with the scratch operands as memrefs owned at some contents (`Gen.scopedRest0_flat`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [scopedRest0_flat]; simp only [scM0_0, owns_whole]; try rfl

/-! ## What the outputs hold after each point -/

/-- What the output's staging buffer holds after the body at point `t`: the picks made from the scores of the
    point's two input blocks. -/
def outsAt0 (c : Dev nD) (t : Fin cfg0.N) : Vec F S1x40x256 .i32 :=
  Topk.rows (k0_pay1 (iblk0 V c 0 t) (iblk0 V c 1 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t)
  Φ _ := Pipeline.ΦA spec0 c
  q w := Pipeline.shareOf spec0 w
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  rw [show (dat0 V c).Φ t.castSucc = Pipeline.ΦA spec0 c from rfl, PhiA0_eq]
  unfold outsAt0
  iintro ⟨⟨⟨HS0, HR1⟩, Hg⟩, Ho, ⟨%d0, H0⟩, ⟨%d1, H1⟩, ⟨%d2, H2⟩⟩
  iapply (Topk.body c (grid0.coords t) _ (hs0_0 t) _ (hs0_1 t) _ (hs0_2 t) _ (Memref.isWhole_whole _) (iblk0 V c 0 t) (iblk0 V c 1 t) Set.univ _)
  isplitl [H0]; · iexact H0
  isplitl [H1]; · iexact H1
  isplitl [H2]; · iexists _; iexact H2
  isplitl [HS0]; · iexact HS0
  iintro ⟨H0, H1, H2, HS0⟩
  isplitl [HS0 HR1 Hg]
  · isplitl [HS0 HR1]
    · isplitl [HS0]
      · iexact HS0
      iexact HR1
    iexact Hg
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__uc_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x128x128 := Rect.unit (s := S1x128x128) ![0, 0, 0] S1x128x128.size inb_S1x128x128_S1x128x128_0_0_0
abbrev r1_1 : Rect S64x8192 := Rect.unit (s := S64x8192) ![0, 0] S64x8192.size inb_S64x8192_S64x8192_0_0
abbrev r1_2 : Rect S1x128x8192 := Rect.unit (s := S1x128x8192) ![0, 0, 0] S1x128x8192.size inb_S1x128x8192_S1x128x8192_0_0_0

/-! ## What the body leaves in each output window's buffer -/

/-- Window 2's staging buffer after the body, from the input windows' blocks: its 1 store as pieces, LAST
    FIRST (Lib/Pipeline/FrameBody.lean `View.canon`; the payloads are the skeleton's). -/
def out1_2 (x0 : Vec F S1x128x128 .f32) (x1 : Vec F S64x8192 .f32) : Vec F S1x128x8192 .f32 :=
  View.canon [⟨r1_2, k1_pay3 (View.ld x0 r1_0) (View.ld x1 r1_1)⟩]

/-- Its stores tile the buffer (checked by evaluation), so they cover it. -/
theorem cover1_2 (p0 : Vec F S1x128x8192 .f32) (y : S1x128x8192.Idx) :
    ∃ pc ∈ ([⟨r1_2, p0⟩] : List (View.Piece (Elt F) S1x128x8192 .f32)), y ∈ pc.1.set :=
  View.cover_of_tiled [⟨r1_2, p0⟩] S1x128x8192.size (by rfl) y

/-- Window 3's staging buffer after the body, from the input windows' blocks: its 1 store as pieces, LAST
    FIRST (Lib/Pipeline/FrameBody.lean `View.canon`; the payloads are the skeleton's). -/
def out1_3 (x0 : Vec F S1x128x128 .f32) (x1 : Vec F S64x8192 .f32) : Vec F S1x128x8192 .f32 :=
  View.canon [⟨r1_2, k1_pay4 (View.ld x0 r1_0) (View.ld x1 r1_1)⟩]

/-- Its stores tile the buffer (checked by evaluation), so they cover it. -/
theorem cover1_3 (p0 : Vec F S1x128x8192 .f32) (y : S1x128x8192.Idx) :
    ∃ pc ∈ ([⟨r1_2, p0⟩] : List (View.Piece (Elt F) S1x128x8192 .f32)), y ∈ pc.1.set :=
  View.cover_of_tiled [⟨r1_2, p0⟩] S1x128x8192.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S1x128x128 .f32) (harg1 : arg1.IsWhole) (arg2 : Memref sig .tc .vmem S64x8192 .f32) (harg2 : arg2.IsWhole) (arg3 : Memref sig .tc .vmem S1x128x8192 .f32) (harg3 : arg3.IsWhole) (arg4 : Memref sig .tc .vmem S1x128x8192 .f32) (harg4 : arg4.IsWhole)
    (x0 : Vec F S1x128x128 .f32) (x1 : Vec F S64x8192 .f32) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__uc_body i arg1 harg1 arg2 harg2 arg3 harg3 arg4 harg4) K := by
  simp only [cc1__uc_body_eq_skeleton]; unfold cc1__uc_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover1_2 _)
  iexists _; isplitr
  swap; · iexact H3
  ipureintro
  exact View.read_writes_eq_canon _ _ _ (cover1_3 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! # REGION 2 of @main: custom_call 2, `cc2__gather_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- Each window's current staging memref at point `t`, spelled as the pipeline passes it (`bodyAt2`), and its wholeness. -/
abbrev ms2_0 (t : Fin cfg2.N) : Memref sig .tc .vmem S1x40x1024 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x128x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x128x8 .f32 := win2_4.stage (cfg2.slots t 4)
abbrev hs2_4 (t : Fin cfg2.N) : (ms2_4 t).IsWhole := hstage2_4 ((cfg2.slots t 4).cast nbuf2_4)
/-- The scratch operands: whole scoped buffers of the kernel's own, passed beside the windows. -/
abbrev scM2_0 : Memref sig .tc .vmem S128x1024 .f32 := Memref.whole cc2_scratch0
abbrev scM2_1 : Memref sig .tc .vmem S128x1024 .f32 := Memref.whole cc2_scratch1
abbrev scM2_2 : Memref sig .tc .vmem S128x1024 .f32 := Memref.whole cc2_scratch2

/-- `Gen.scopedRest2_split` as ONE chain: the kernel's own scratch buffers, each whole at some contents, then every
    other scoped buffer, unopened (`Pipeline.scopedRestBut`). -/
theorem scopedRest2_flat (c : Dev nD) :
    (Pipeline.scopedRest spec2 c : sProp 𝕄)
      = iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc2_scratch2), ((c : Thread nD τ).loc cc2_scratch2) ↦{fullShare} f) ∗ Pipeline.scopedRestBut spec2 c [cc2_scratch0, cc2_scratch1, cc2_scratch2]) := by
  have assoc : ∀ P Q R : sProp 𝕄, iprop((P ∗ Q) ∗ R) = iprop(P ∗ Q ∗ R) :=
    fun _ _ _ => Idealize.SL.BI.Entails.antisymm Idealize.SL.BI.sep_assoc Idealize.SL.BI.sep_assoc'
  rw [scopedRest2_split, assoc, assoc]

/-- The frame kit's invariant with the scratch operands as memrefs owned at some contents (`Gen.scopedRest2_flat`,
    Lib/Memref.lean `owns_whole`): what the body obligation hands the run and takes back. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d) ∗ Pipeline.scopedRestBut spec2 c [cc2_scratch0, cc2_scratch1, cc2_scratch2]) ∗ (∃ r, prngReg c r)) := by
  unfold Pipeline.ΦA; rw [scopedRest2_flat]; simp only [scM2_0, scM2_1, scM2_2, owns_whole]; try rfl

/-! ## What the outputs hold after each point -/

/-- What the outputs' staging buffers hold after the body at point `t`: the maximum of the gathered rows, and the
    block of statistics, from the point's three input blocks. -/
def outsAt2 (c : Dev nD) (t : Fin cfg2.N) : Vec F S1x1x128x1024 .f32 × Vec F S1x1x128x8 .f32 :=
  (k2_pay16 (Gather.mx (grid2.coords t) (iblk2 V c 0 t) (iblk2 V c 1 t)),
    Gather.stats (k2_pay4 (iblk2 V c 2 t)) (Gather.sm (grid2.coords t) (iblk2 V c 0 t) (iblk2 V c 1 t))
      (Gather.sq (grid2.coords t) (iblk2 V c 0 t) (iblk2 V c 1 t)))

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t).1
    | ⟨4, _⟩ => (outsAt2 V c t).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t).1 := by dsimp only [dat2]
theorem after2_4 (c : Dev nD) (t : Fin cfg2.N) : (dat2 V c).after 4 t = (outsAt2 V c t).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

set_option maxHeartbeats 800000 in
/-- The body at any point: the inputs' memrefs hold their blocks (`before2_W`); so the
    run applies; the invariant hands the body its scratch buffers at some contents (and the generator register) and takes them back at some contents (`PhiA_eq`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  rw [show (dat2 V c).Φ t.castSucc = Pipeline.ΦA spec2 c from rfl, PhiA2_eq]
  unfold outsAt2; (try dsimp only)
  iintro ⟨⟨⟨HS0, HS1, HS2, HR3⟩, Hg⟩, Ho, ⟨%d0, H0⟩, ⟨%d1, H1⟩, ⟨%d2, H2⟩, ⟨%d3, H3⟩, ⟨%d4, H4⟩⟩
  iapply (Gather.body c (grid2.coords t) _ (hs2_0 t) _ (hs2_1 t) _ (hs2_2 t) _ (hs2_3 t) _ (hs2_4 t) _ (Memref.isWhole_whole _) _ (Memref.isWhole_whole _) _ (Memref.isWhole_whole _) (iblk2 V c 0 t) (iblk2 V c 1 t) (iblk2 V c 2 t) Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  isplitl [HS2]; · iexact HS2
  iintro ⟨H0, H1, H2, H3, H4, HS0, HS1, HS2⟩
  isplitl [HS0 HS1 HS2 HR3 Hg]
  · isplitl [HS0 HS1 HS2 HR3]
    · isplitl [HS0]
      · iexact HS0
      isplitl [HS1]
      · iexact HS1
      isplitl [HS2]
      · iexact HS2
      iexact HR3
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-! # REGION 3 of @main: custom_call 3, `cc3__final_body` (pipeline 3), at the entry contents `V` -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x1x128x1024 := Rect.unit (s := S1x1x128x1024) ![0, 0, 0, 0] S1x1x128x1024.size inb_S1x1x128x1024_S1x1x128x1024_0_0_0_0
abbrev r3_1 : Rect S1x128x1024 := Rect.unit (s := S1x128x1024) ![0, 0, 0] S1x128x1024.size inb_S1x128x1024_S1x128x1024_0_0_0
abbrev r3_2 : Rect S1x128x1 := Rect.unit (s := S1x128x1) ![0, 0, 0] S1x128x1.size inb_S1x128x1_S1x128x1_0_0_0

/-! ## What the body leaves in each output window's buffer -/

/-- Window 5's staging buffer after the body, from the input windows' blocks: its 1 store as pieces, LAST
    FIRST (Lib/Pipeline/FrameBody.lean `View.canon`; the payloads are the skeleton's). -/
def out3_5 (x0 : Vec F S1x1x128x1024 .f32) (x1 : Vec F S1x128x1024 .f32) (x2 : Vec F S1x128x1 .f32) (x3 : Vec F S1x128x1 .f32) (x4 : Vec F S1x128x1 .f32) : Vec F S1x1x128x1024 .f32 :=
  View.canon [⟨r3_0, k3_pay1 (View.ld x0 r3_0) (View.ld x1 r3_1) (View.ld x2 r3_2) (View.ld x3 r3_2) (View.ld x4 r3_2)⟩]

/-- Its stores tile the buffer (checked by evaluation), so they cover it. -/
theorem cover3_5 (p0 : Vec F S1x1x128x1024 .f32) (y : S1x1x128x1024.Idx) :
    ∃ pc ∈ ([⟨r3_0, p0⟩] : List (View.Piece (Elt F) S1x1x128x1024 .f32)), y ∈ pc.1.set :=
  View.cover_of_tiled [⟨r3_0, p0⟩] S1x1x128x1024.size (by rfl) y

/-! ## The body's triple -/

set_option maxHeartbeats 1000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg2 : Memref sig .tc .vmem S1x1x128x1024 .f32) (harg2 : arg2.IsWhole) (arg3 : Memref sig .tc .vmem S1x128x1024 .f32) (harg3 : arg3.IsWhole) (arg4 : Memref sig .tc .vmem S1x128x1 .f32) (harg4 : arg4.IsWhole) (arg5 : Memref sig .tc .vmem S1x128x1 .f32) (harg5 : arg5.IsWhole) (arg6 : Memref sig .tc .vmem S1x128x1 .f32) (harg6 : arg6.IsWhole) (arg7 : Memref sig .tc .vmem S1x1x128x1024 .f32) (harg7 : arg7.IsWhole)
    (x0 : Vec F S1x1x128x1024 .f32) (x1 : Vec F S1x128x1024 .f32) (x2 : Vec F S1x128x1 .f32) (x3 : Vec F S1x128x1 .f32) (x4 : Vec F S1x128x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out3_5 x0 x1 x2 x3 x4)) -∗ K ⟨⟩))
      ⊢ wp frame (wpE (defs₀ (F := F)) Variants.none c none) E (cc3__final_body i arg2 harg2 arg3 harg3 arg4 harg4 arg5 harg5 arg6 harg6 arg7 harg7) K := by
  simp only [cc3__final_body_eq_skeleton]; unfold cc3__final_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v1, main_v2, main_v3, main_v4, main_v5, main_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v9, main_cst_0, main_v10, main_cst_1, main_v11, main_v12, main_v13, main_v14, main_v15, main_v16, main_v17, main_v18, main_v19, main_v20, main_v21, main_v22, main_v23, main_cst_2, main_v24, main_v25, main_v26, main_v27, main_v28, main_v29, main_v30, main_v31, main_v32, main_v33, main_v34, main_v35, main_v36, main_v37, main_v38, main_v39, main_v40, main_v41, main_v42, main_v43, main_v44, main_v45, main_cst_3, main_v46, main_v47, main_v48, main_v49, main_v50, main_v51, main_v52]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-- No operation of `hostOps4` allocates a buffer. -/
theorem hostOps4_fresh : (hostOps4 : List (HloOp τ sig (Elt F))).Forall fun op => op.fresh = ∅ := by
  simp only [List.Forall]; repeat' constructor
/-- The reference each operation of `hostOps4` writes, in order. -/
abbrev hostOps4_W : List (Ref sig .tc) := [main_v54, main_v55, main_v56, main_v57, main_v58, main_v59]
theorem hostOps4_writes : (hostOps4 : List (HloOp τ sig (Elt F))).Forall fun op => op.writes ⊆ (hostOps4_W.map (Proc.devRef (τ := τ) .tc)).toFinset :=
  StableHlo.forall_writes_sub_of_map rfl
/-- `hostOps4` writes none of the argument arrays (checked: each argument against each reference it writes). -/
theorem hostOps4_args : ∀ a ∈ argRefs, a ∉ hostOps4_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3` (region 3's entry). -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)
/-- The same read at the TensorCore's references (what region 3's proof data take). -/
abbrev V6 : (c : Dev nD) → (b : Ref sig .tc) → Buf (Elt F) ((c : Thread nD τ).loc b) := fun c b => W6 m ρ c b
/-- At region 3's exit: its arrays at what the pipeline leaves (the inputs as entered, each output's write-backs
    folded: `Dat.arrAt … N`), every other buffer as entered (Lib/Pipeline/FrameSuffix.lean `withArrays`). -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- After `hostOps4`. -/
abbrev W8 : Dev nD → Valuation τ sig (Elt F) := fun c => StableHlo.after hostOps4 (W7 m ρ c)
/-- A reference `hostOps4` does not write keeps its contents across it. -/
theorem W8_of (c : Dev nD) (r : Ref sig .tc) (h : r ∉ hostOps4_W) : W8 m ρ c (Proc.devRef .tc r) = W7 m ρ c (Proc.devRef .tc r) :=
  StableHlo.after_of_writes_sub hostOps4 _ hostOps4_writes h
theorem W8_args (c : Dev nD) : ∀ a ∈ argRefs, W8 m ρ c (Proc.devRef .tc a) = m ((c : Thread nD τ).loc a) :=
  fun a ha => (W8_of m ρ c a (hostOps4_args a ha)).trans (W7_args m ρ c a ha)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 3 (custom_call 3) over the thread state: entered from every unscoped buffer at `W6`, left at `W7`
    (what the next segment is entered from). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .host (hseg hostOps4 hostOps4_sub hostOps4_fresh (W7 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run: from any memory with zero counters every fair execution of @main ends, and at the end every unscoped
    buffer holds the last boundary's contents and every semaphore counter is zero. -/
theorem run : θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = W8 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨fun c b hb => h c _ (mem_uc b hb), funext fun g => hz g (.inr (no_unscoped g.2))⟩)

/-- The frame: the run ends with every argument array as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (run m ρ).mono fun r h => ⟨fun c =>
      ⟨(h.1 c main_arg0 (by decide)).trans (W8_main_arg0 m ρ c),
       (h.1 c main_arg1 (by decide)).trans (W8_main_arg1 m ρ c),
       (h.1 c main_arg2 (by decide)).trans (W8_main_arg2 m ρ c),
       (h.1 c main_arg3 (by decide)).trans (W8_main_arg3 m ρ c),
       (h.1 c main_arg4 (by decide)).trans (W8_main_arg4 m ρ c),
       (h.1 c main_arg5 (by decide)).trans (W8_main_arg5 m ρ c),
       (h.1 c main_arg6 (by decide)).trans (W8_main_arg6 m ρ c),
       (h.1 c main_arg7 (by decide)).trans (W8_main_arg7 m ρ c),
       (h.1 c main_arg8 (by decide)).trans (W8_main_arg8 m ρ c),
       (h.1 c main_arg9 (by decide)).trans (W8_main_arg9 m ρ c)⟩, h.2⟩

end Cert.KernelIdeal.Run

end
-- ==== Proof.Norm.lean ====
module

public import Idealize.ShloMosaic.Lib.Pointwise

/-! The arithmetic of the normalisation. A neighbour's convolution value is `u + c` with `c` free of the neighbour; the
    mean and the variance over all neighbours split into sums of `u` and of `c`, and the normalised activation is
    monotone when its scale is not negative, so that it may be taken of the largest value alone. -/

@[expose] public section

noncomputable section

namespace Cert.Knn

open Finset

variable {ι κ : Type} [Fintype ι] [Fintype κ] {K : ℕ}

/-- The sum of all values, from the sums of the two parts. -/
theorem sum_split (u : ι → κ → Fin K → ℝ) (c : ι → κ → ℝ) :
    ∑ b, ∑ n, ∑ j, (u b n j + c b n) = (∑ b, ∑ n, ∑ j, u b n j) + K * ∑ b, ∑ n, c b n := by
  simp [sum_add_distrib, mul_sum]

/-- The sum of all squares, from the sums of the two parts. -/
theorem sq_split (u : ι → κ → Fin K → ℝ) (c : ι → κ → ℝ) :
    ∑ b, ∑ n, ∑ j, (u b n j + c b n) * (u b n j + c b n)
      = ((∑ b, ∑ n, ∑ j, u b n j * u b n j) + 2 * ∑ b, ∑ n, (∑ j, u b n j) * c b n)
        + K * ∑ b, ∑ n, c b n * c b n := by
  have h : ∀ b n, ∑ j, (u b n j + c b n) * (u b n j + c b n)
      = (∑ j, u b n j * u b n j) + 2 * ((∑ j, u b n j) * c b n) + K * (c b n * c b n) := fun b n => by
    have e : ∀ j, (u b n j + c b n) * (u b n j + c b n) = u b n j * u b n j + 2 * (u b n j * c b n) + c b n * c b n :=
      fun j => by ring
    simp only [e, sum_add_distrib, ← mul_sum, ← sum_mul, sum_const, card_univ, Fintype.card_fin, nsmul_eq_mul]
    ring
  simp only [h, sum_add_distrib, ← mul_sum]

/-- The mean of the squared deviations is the mean of the squares less the square of the mean. -/
theorem var_split (y : ι → κ → Fin K → ℝ) (N : ℝ) (hN : N ≠ 0)
    (hc : (Fintype.card ι : ℝ) * (Fintype.card κ * K) = N) (μ : ℝ) (hμ : μ = (∑ b, ∑ n, ∑ j, y b n j) / N) :
    (∑ b, ∑ n, ∑ j, (y b n j - μ) * (y b n j - μ)) / N = (∑ b, ∑ n, ∑ j, y b n j * y b n j) / N - μ * μ := by
  have e : ∀ b n j, (y b n j - μ) * (y b n j - μ) = y b n j * y b n j - 2 * μ * y b n j + μ * μ := fun b n j => by ring
  have hS : (∑ b, ∑ n, ∑ j, y b n j) = μ * N := by rw [hμ]; field_simp
  simp only [e, sum_add_distrib, sum_sub_distrib, ← mul_sum, hS, sum_const, card_univ, Fintype.card_fin, nsmul_eq_mul]
  have h2 : μ * (K * (Fintype.card κ * (Fintype.card ι * μ))) = N * (μ * μ) := by rw [← hc]; ring
  rw [h2]; field_simp; ring

/-- The leaky rectifier of slope `a`. -/
def leaky (a z : EReal) : EReal := if 0 < z then z else a * z

theorem leaky_mono (a : EReal) (ha : 0 ≤ a) : Monotone (leaky a) := by
  intro z w h
  unfold leaky
  split_ifs with h1 h2 h2
  · exact h
  · exact absurd (h1.trans_le h) h2
  · refine le_trans ?_ h2.le
    have := mul_le_mul_of_nonneg_left (not_lt.1 h1) ha
    rwa [mul_zero] at this
  · exact mul_le_mul_of_nonneg_left h ha

/-- The normalised activation of a value. -/
def act (a μ s β t : EReal) : EReal := leaky a ((t - μ) * s + β)

theorem act_mono (a μ s β : EReal) (ha : 0 ≤ a) (hs : 0 ≤ s) : Monotone (act a μ s β) := fun z w h =>
  leaky_mono a ha (add_le_add_left (mul_le_mul_of_nonneg_right (EReal.sub_le_sub h le_rfl) hs) β)

/-- The activation of the largest neighbour plus the common part is the largest activation. -/
theorem act_sup (hK : 0 < K) (a μ s β : EReal) (ha : 0 ≤ a) (hs : 0 ≤ s) (u : Fin K → EReal) (c : EReal) :
    act a μ s β (univ.sup u + c) = univ.sup fun j => act a μ s β (u j + c) := by
  have hne : (univ : Finset (Fin K)).Nonempty := ⟨⟨0, hK⟩, mem_univ _⟩
  have hm : Monotone fun t => act a μ s β (t + c) := fun z w h => act_mono a μ s β ha hs (add_le_add_left h c)
  rw [← sup'_eq_sup hne, ← sup'_eq_sup hne]
  exact map_finset_sup' (f := (⟨_, hm⟩ : EReal →o EReal)) hne u

end Cert.Knn

end
-- ==== Proof.Select.lean ====
/- Taking a row's greatest entry over and over, each time masking it with minus infinity, visits the positions in the
   order of a stable descending sort. -/
module

public import Idealize.ShloMosaic.Lib.SortPrefix
public import Idealize.ShloMosaic.PureOps.Ideal

@[expose] public section

noncomputable section

namespace Cert.Knn

open Idealize.ShloMosaic

variable {n : ℕ} [NeZero n]

/-- The least position at which a row is greatest. -/
def first (r : Fin n → EReal) : Fin n :=
  (Finset.univ.filter fun m => ∀ p, r p ≤ r m).min' (by
    obtain ⟨m, -, hm⟩ := Finset.exists_max_image Finset.univ r Finset.univ_nonempty
    exact ⟨m, by simpa using hm⟩)

theorem first_max (r : Fin n → EReal) (p : Fin n) : r p ≤ r (first r) := by
  have h := Finset.min'_mem (Finset.univ.filter fun m => ∀ p, r p ≤ r m) (by
    obtain ⟨m, -, hm⟩ := Finset.exists_max_image Finset.univ r Finset.univ_nonempty
    exact ⟨m, by simpa using hm⟩)
  exact (Finset.mem_filter.mp h).2 p

theorem first_least (r : Fin n → EReal) {m : Fin n} (h : ∀ p, r p ≤ r m) : first r ≤ m :=
  Finset.min'_le _ _ (by simpa using h)

/-- The least position of the greatest entry is the only position with both properties. -/
theorem first_unique (r : Fin n → EReal) {m : Fin n} (h : ∀ p, r p ≤ r m) (h' : ∀ q, (∀ p, r p ≤ r q) → m ≤ q) :
    first r = m :=
  le_antisymm (first_least r h) (h' _ (first_max r))

/-- A row after `j` rounds: each round puts minus infinity at the place of the greatest entry. -/
def masked (s : Fin n → EReal) : ℕ → Fin n → EReal
  | 0 => s
  | j + 1 => fun m => if m = first (masked s j) then ⊥ else masked s j m

/-- The position that round `j` takes. -/
def pick (s : Fin n → EReal) (j : ℕ) : Fin n := first (masked s j)

open Classical in
theorem masked_eq (s : Fin n → EReal) (j : ℕ) (m : Fin n) :
    masked s j m = if ∃ i < j, pick s i = m then ⊥ else s m := by
  induction j with
  | zero => simp [masked]
  | succ j ih =>
    show (if m = pick s j then ⊥ else masked s j m) = _
    rw [ih]
    by_cases h1 : m = pick s j
    · rw [if_pos h1, if_pos ⟨j, Nat.lt_succ_self j, h1.symm⟩]
    · rw [if_neg h1]
      refine if_congr ⟨?_, ?_⟩ rfl rfl
      · rintro ⟨i, hi, e⟩
        exact ⟨i, hi.trans (Nat.lt_succ_self j), e⟩
      · rintro ⟨i, hi, e⟩
        rcases Nat.lt_succ_iff_lt_or_eq.mp hi with h | h
        · exact ⟨i, h, e⟩
        · exact absurd (h ▸ e.symm) h1

section Finite

variable (s : Fin n → EReal) (hs : ∀ m, ⊥ < s m)
include hs

/-- A round takes a position that no round before it took. -/
theorem pick_new {j : ℕ} (hj : j < n) : ∀ i < j, pick s i ≠ pick s j := by
  classical
  intro i hi e
  have hcard : ((Finset.range j).image (pick s)).card < (Finset.univ : Finset (Fin n)).card := by
    refine lt_of_le_of_lt Finset.card_image_le ?_
    simpa using hj
  obtain ⟨m, -, hm⟩ := Finset.exists_mem_notMem_of_card_lt_card hcard
  have hm' : ¬ ∃ i < j, pick s i = m := by
    rintro ⟨a, ha, rfl⟩
    exact hm (Finset.mem_image_of_mem _ (Finset.mem_range.mpr ha))
  have h1 : masked s j m ≤ masked s j (pick s j) := first_max _ _
  rw [masked_eq, masked_eq, if_neg hm', if_pos ⟨i, hi, e⟩] at h1
  exact absurd (hs m) (not_lt.mpr h1)

/-- A position that no round before `j` took is not greater than the one round `j` takes, and comes later if equal. -/
theorem pick_least {j : ℕ} (hj : j < n) {p : Fin n} (hp : ∀ i < j, pick s i ≠ p) :
    s p < s (pick s j) ∨ (s p = s (pick s j) ∧ pick s j ≤ p) := by
  classical
  have hp' : ¬ ∃ i < j, pick s i = p := fun ⟨i, hi, e⟩ => hp i hi e
  have hj' : ¬ ∃ i < j, pick s i = pick s j := fun ⟨i, hi, e⟩ => pick_new s hs hj i hi e
  have hmp : masked s j p = s p := by rw [masked_eq, if_neg hp']
  have hmj : masked s j (pick s j) = s (pick s j) := by rw [masked_eq, if_neg hj']
  have h1 : masked s j p ≤ masked s j (pick s j) := first_max _ _
  rcases lt_or_eq_of_le h1 with h | h
  · exact Or.inl (by rwa [hmp, hmj] at h)
  · refine Or.inr ⟨by rwa [hmp, hmj] at h, first_least _ fun q => ?_⟩
    rw [h]
    exact first_max _ q

end Finite

/-- Before: greater, or equal and at a lower position. -/
def before (s : Fin n → EReal) (a b : Fin n) : Bool :=
  (open Classical in decide (s b < s a)) || ((open Classical in decide (s a = s b)) && decide (a < b))

theorem before_eq_true (s : Fin n → EReal) (a b : Fin n) : before s a b = true ↔ s b < s a ∨ (s a = s b ∧ a < b) := by
  simp [before]

theorem before_strict (s : Fin n → EReal) : StrictTotalBefore (before s) where
  irrefl a := by
    rw [← Bool.not_eq_true, before_eq_true]
    simp
  trans a b c := by
    simp only [before_eq_true]
    rintro (h | ⟨h, h'⟩) (g | ⟨g, g'⟩)
    · exact Or.inl (g.trans h)
    · exact Or.inl (g ▸ h)
    · exact Or.inl (h ▸ g)
    · exact Or.inr ⟨h.trans g, h'.trans g'⟩
  total a b hne := by
    simp only [before_eq_true]
    rcases lt_trichotomy (s a) (s b) with h | h | h
    · exact Or.inr (Or.inl h)
    · rcases lt_or_gt_of_ne hne with g | g
      · exact Or.inl (Or.inr ⟨h, g⟩)
      · exact Or.inr (Or.inr ⟨h.symm, g⟩)
    · exact Or.inl (Or.inl h)

/-- Two relations that agree wherever the first argument is the later position sort a list of rising positions alike. -/
theorem stableSort_eq_of_later {R R' : Fin n → Fin n → Bool} (h : ∀ a b : Fin n, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    refine insertBefore_congr R R' a _ fun b hb => h a b (hl.1 b ((perm_stableSort R' l).mem_iff.mp hb))

/-- The stable sort by "greater" visits first the positions that the rounds take. -/
theorem sortedFrom_gt (s : Fin n → EReal) (hs : ∀ m, ⊥ < s m) (R : Fin n → Fin n → Bool)
    (hR : ∀ a b, R a b = true ↔ s b < s a) (j : Fin n) : sortedFrom R j = pick s j.val := by
  have e : sortedFrom R = sortedFrom (before s) := by
    funext k
    unfold sortedFrom
    have e' : sortPositions n R = sortPositions n (before s) :=
      stableSort_eq_of_later (fun a b hab => by
        rw [Bool.eq_iff_iff, hR, before_eq_true]
        exact ⟨Or.inl, fun h => h.resolve_right fun g => absurd hab (not_lt.mpr g.2.le)⟩) _ (List.pairwise_lt_finRange n)
    rw [List.get_of_eq e']
    rfl
  rw [e]
  have key := (before_strict s).sortedFrom_eq_of_prefix (k := n) le_rfl (fun i => pick s i.val)
    (fun a b hab => by
      by_contra hne
      rcases lt_or_gt_of_ne (fun h => hne (Fin.ext h) : a.val ≠ b.val) with h | h
      · exact pick_new s hs b.isLt a.val h hab
      · exact pick_new s hs a.isLt b.val h hab.symm)
    (fun a b hab => by
      rw [← Bool.not_eq_true, before_eq_true]
      rcases pick_least s hs a.isLt (p := pick s b.val) (fun i hi => pick_new s hs b.isLt i (hi.trans hab)) with h | ⟨h, g⟩
      · rintro (h' | ⟨h', -⟩)
        · exact absurd h (not_lt.mpr h'.le)
        · exact absurd h' h.ne
      · rintro (h' | ⟨-, h'⟩)
        · exact absurd h h'.ne'
        · exact absurd h' (not_lt.mpr g))
    (fun a p hp => by
      rw [← Bool.not_eq_true, before_eq_true]
      rcases pick_least s hs a.isLt (p := p) (fun i hi => hp ⟨i, hi.trans a.isLt⟩) with h | ⟨h, g⟩
      · rintro (h' | ⟨h', -⟩)
        · exact absurd h (not_lt.mpr h'.le)
        · exact absurd h' h.ne
      · rintro (h' | ⟨-, h'⟩)
        · exact absurd h h'.ne'
        · exact absurd h' (not_lt.mpr g)) j
  exact key

end Cert.Knn

end
-- ==== Proof.Words.lean ====
module

public import proofs.«01_k».proof.Proof.Select
public import Idealize.ShloMosaic.Lib.Pointwise

/-! Index words over exact values: comparing two of them, converting one to a number and back, the least of a set of
    them, and a contraction against a one-hot column. -/

@[expose] public section

noncomputable section

namespace Cert.Knn

open Idealize.ShloMosaic

theorem ofNat_inj {a b : ℕ} (ha : a < 2 ^ 31) (hb : b < 2 ^ 31) : BitVec.ofNat 32 a = BitVec.ofNat 32 b ↔ a = b := by
  refine ⟨fun h => ?_, fun h => h ▸ rfl⟩
  have := congrArg BitVec.toNat h
  simp only [BitVec.toNat_ofNat] at this
  omega

/-- Two index words are compared as numbers. -/
theorem cmpi_ofNat {a b : ℕ} (ha : a < 2 ^ 31) (hb : b < 2 ^ 31) :
    IntOp.cmpi .eq (BitVec.ofNat 32 a) (BitVec.ofNat 32 b) = if a = b then 1#1 else 0#1 := by
  unfold IntOp.cmpi
  by_cases h : a = b
  · subst h; simp
  · have : BitVec.ofNat 32 a ≠ BitVec.ofNat 32 b := fun e => h ((ofNat_inj ha hb).1 e)
    have e : (BitVec.ofNat 32 a == BitVec.ofNat 32 b) = false := beq_eq_false_iff_ne.2 this
    simp only [e, if_neg h]; rfl

theorem toInt_ofNat {a : ℕ} (ha : a < 2 ^ 31) : (BitVec.ofNat 32 a).toInt = a := by
  have e : (BitVec.ofNat 32 a).toNat = a := by rw [BitVec.toNat_ofNat]; omega
  rw [BitVec.toInt_eq_toNat_of_lt (by omega), e]

/-- The one-hot entry as a number. -/
theorem onehot {a b : ℕ} (ha : a < 2 ^ 31) (hb : b < 2 ^ 31) :
    (FloatOps.sitofp (F := Ideal) .f32 (BitVec.setWidth 32 (IntOp.cmpi .eq (BitVec.ofNat 32 a) (BitVec.ofNat 32 b))) : EReal)
      = if a = b then 1 else 0 := by
  rw [cmpi_ofNat ha hb]
  show ((((BitVec.setWidth 32 (if a = b then 1#1 else 0#1)).toInt : ℝ)) : EReal) = _
  by_cases h : a = b
  · simp [h]
  · simp [h]

/-- An index word survives the way through a number. -/
theorem roundtrip {a : ℕ} (ha : a < 2 ^ 31) :
    (FloatOps.fptosi (F := Ideal) (φ := .f32) 32 (FloatOps.sitofp (F := Ideal) .f32 (BitVec.ofNat 32 a)) : BitVec 32) = BitVec.ofNat 32 a := by
  show Ideal.fptosi 32 (((BitVec.ofNat 32 a).toInt : ℝ) : EReal) = _
  rw [toInt_ofNat ha, Ideal.fptosi, Ideal.toIntClamped_coe]
  have h0 : (0 : ℝ) ≤ ((a : ℤ) : ℝ) := by positivity
  rw [if_pos h0, Int.floor_intCast, min_eq_right (by norm_num at *; omega), max_eq_right (by norm_num at *)]
  rfl

/-- Minus infinity as a literal. -/
theorem bot_bits : Ideal.ofBits .f32 0xFF800000#32 = ⊥ := by
  simp [Ideal.ofBits, Ideal.ieee]

variable {n : ℕ} [NeZero n]

/-- The fold of the maximum is the entry at the first greatest position. -/
theorem fold_max (f : Fin n → EReal) : Finset.fold max (⊥ : EReal) f Finset.univ = f (first f) := by
  apply le_antisymm
  · exact (Finset.fold_max_le _).2 ⟨bot_le, fun x _ => first_max f x⟩
  · exact Finset.le_fold_max _ |>.2 (.inr ⟨_, Finset.mem_univ _, le_rfl⟩)

/-- The least word at which the row is greatest is the first greatest position. -/
theorem fold_min (f : Fin n → EReal) (B : ℕ) (hn : n ≤ B) (hB : B < 2 ^ 31) :
    Finset.fold IntOp.minsi (2147483647#32) (fun x : Fin n => if f x = f (first f) then BitVec.ofNat 32 x.val else BitVec.ofNat 32 B) Finset.univ
      = BitVec.ofNat 32 (first f).val := by
  apply BitVec.eq_of_toInt_eq
  have hom := Finset.fold_hom (op := IntOp.minsi) (op' := (min : ℤ → ℤ → ℤ)) (m := BitVec.toInt) (b := 2147483647#32)
    (s := Finset.univ) (f := fun x : Fin n => if f x = f (first f) then BitVec.ofNat 32 x.val else BitVec.ofNat 32 B)
    (fun x y => by
      unfold IntOp.minsi
      by_cases h : x.slt y
      · rw [if_pos h]; rw [BitVec.slt_iff_toInt_lt] at h; exact (min_eq_left h.le).symm
      · rw [if_neg h]; rw [BitVec.slt_iff_toInt_lt, not_lt] at h; exact (min_eq_right h).symm)
  have hf : (BitVec.ofNat 32 (first f).val).toInt = (first f).val := toInt_ofNat (by have := (first f).isLt; omega)
  rw [← hom, hf]
  apply le_antisymm
  · refine (Finset.fold_min_le _).2 (.inr ⟨first f, Finset.mem_univ _, ?_⟩)
    rw [if_pos rfl, hf]
  · refine Finset.le_fold_min _ |>.2 ⟨?_, fun x _ => ?_⟩
    · have := (first f).isLt
      have e : (2147483647#32).toInt = 2147483647 := by decide
      rw [e]; omega
    · split_ifs with h
      · rw [toInt_ofNat (by have := x.isLt; omega)]
        have : first f ≤ x := first_least f fun p => h ▸ first_max f p
        exact_mod_cast this
      · rw [toInt_ofNat hB]
        have := (first f).isLt
        omega

/-- A contraction against a one-hot column takes one entry. -/
theorem sum_onehot {ι : Type} [Fintype ι] [DecidableEq ι] (v : ι → EReal) (a : ι) (p : ι → Prop) [DecidablePred p]
    (hp : ∀ x, p x ↔ x = a) : ∑ x, v x * (if p x then (1 : EReal) else 0) = v a := by
  rw [Finset.sum_eq_single a]
  · rw [if_pos ((hp a).2 rfl), mul_one]
  · intro x _ hx
    rw [if_neg fun h => hx ((hp x).1 h), mul_zero]
  · exact fun h => absurd (Finset.mem_univ _) h

end Cert.Knn

end
-- ==== Proof.TopkValue.lean ====
module

public import proofs.«01_k».proof.Proof.Topk
public import proofs.«01_k».proof.Proof.Words

/-! What the nearest-point kernel's body computes over exact values: the picks are the positions that a stable
    descending sort of the scores visits first. -/

@[expose] public section

set_option maxRecDepth 16384

noncomputable section

namespace Cert.KernelIdeal.Topk

open Idealize.ShloMosaic Idealize.ShloMosaic.TcCoe Idealize.ShloMosaic.Tactic
open Idealize.SL.Sem
open Cert.KernelIdeal Cert.KernelIdeal.Gen

/-- A score: twice the product of two points, less the square of each. -/
def score (x y : Fin 64 → EReal) : EReal :=
  (2 * (∑ k, x k * y k) - ∑ k, x k * x k) - ∑ k, y k * y k

theorem two_bits : Ideal.ofBits .f32 0x40000000#32 = 2 := by
  simp [Ideal.ofBits, Ideal.ieee, -EReal.coe_mul]; norm_num; rfl

theorem pay1 (x0 : Vec Ideal S1x64x1024 .f32) (x1 : Vec Ideal S1x64x256 .f32) (n : Fin 256) (m : Fin 1024) :
    k0_pay1 x0 x1 (ix2 n m) = score (fun k => x1 (ix3 0 k n)) (fun k => x0 (ix3 0 k m)) := by
  unfold k0_pay1 score
  pointwise
  simp [two_bits]

/-- A row of the scratch. -/
abbrev line (v : Vec Ideal S256x1024 .f32) (n : Fin 256) : Fin 1024 → EReal := fun m => v (ix2 n m)

theorem pay2 (v : Vec Ideal S256x1024 .f32) (n : Fin 256) :
    k0_pay2 v (ix2 n 0) = BitVec.ofNat 32 (Knn.first (line v n)).val := by
  unfold k0_pay2
  pointwise
  simp only [Knn.bot_bits]
  rw [Knn.fold_max (line v n)]
  exact Knn.fold_min (line v n) 2048 (by norm_num) (by norm_num)

theorem pay3 (v : Vec Ideal S256x1024 .f32) (n : Fin 256) :
    k0_pay3 v (ix3 0 0 n) = BitVec.ofNat 32 (Knn.first (line v n)).val := by
  unfold k0_pay3
  pointwise
  simp only [pay2]
  refine Eq.trans (congrArg (FloatOps.fptosi (F := Ideal) (φ := .f32) 32) ?_)
    (Knn.roundtrip (a := (Knn.first (line v n)).val) (by have := (Knn.first (line v n)).isLt; omega))
  refine Eq.trans (Finset.sum_congr rfl fun x _ => congrArg (HMul.hMul _) (Knn.onehot (by omega) (by omega))) ?_
  exact Knn.sum_onehot (fun x => FloatOps.sitofp (F := Ideal) .f32 (BitVec.ofNat 32 (Knn.first (line v x)).val)) n
    (fun x => x.val = n.val) fun x => Fin.ext_iff.symm

theorem pay4 (v : Vec Ideal S256x1024 .f32) (n : Fin 256) (m : Fin 1024) :
    k0_pay4 v (ix2 n m) = if m = Knn.first (line v n) then (⊥ : EReal) else v (ix2 n m) := by
  unfold k0_pay4
  pointwise
  simp only [pay2, Knn.bot_bits]
  rw [Knn.cmpi_ofNat (by omega) (by have := (Knn.first (line v n)).isLt; omega)]
  by_cases h : m = Knn.first (line v n)
  · rw [if_pos h, if_pos (congrArg Fin.val h)]; rfl
  · rw [if_neg h, if_neg fun e => h (Fin.ext e)]; rfl

/-- After `j` picks a row of the scratch is the row of the scores with the picks masked. -/
theorem line_scr (s : Vec Ideal S256x1024 .f32) (n : Fin 256) (j : ℕ) : line (scr s j) n = Knn.masked (line s n) j := by
  induction j with
  | zero => rfl
  | succ j ih =>
    funext m
    show k0_pay4 (scr s j) (ix2 n m) = if m = Knn.first (Knn.masked (line s n) j) then ⊥ else Knn.masked (line s n) j m
    rw [pay4, ih]
    exact if_congr Iff.rfl rfl (congrFun ih m)

/-- The index block holds the picks. -/
theorem rows_eq (s : Vec Ideal S256x1024 .f32) (y : S1x40x256.Idx) :
    rows s y = BitVec.ofNat 32 (Knn.pick (line s (y 2)) (y 1).val).val := by
  exact (pay3 (scr s (y 1).val) (y 2)).trans
    (congrArg (fun f : Fin 1024 → EReal => BitVec.ofNat 32 (Knn.first f).val) (line_scr s (y 2) (y 1).val))

end Cert.KernelIdeal.Topk

end
-- ==== Proof.Arrays.lean ====
module

public import proofs.«01_k».proof.Proof.Run
public import proofs.«01_k».proof.Proof.Norm
public import proofs.«01_k».proof.Proof.TopkValue
public import Idealize.ShloMosaic.Lib.Pipeline.ValueKit

/-! What each region leaves in its output arrays, as a function of the arrays it finds. -/

@[expose] public section

set_option maxRecDepth 16384
set_option maxHeartbeats 4000000

noncomputable section

namespace Cert.KernelIdeal.Arrays

open Idealize.ShloMosaic Idealize.ShloMosaic.TcCoe Idealize.ShloMosaic.Tactic
open Idealize.SL.Sem
open Cert.KernelIdeal Cert.KernelIdeal.Gen Cert.KernelIdeal.Run
open Idealize.ShloMosaic.Pointwise

variable (V : (c : Dev nD) → (b : Ref sig .tc) → Buf (Elt Ideal) ((c : Thread nD τ).loc b))

theorem idx1 : ∀ t : Fin grid1.N, win1_0.index t = ![t.val, 0, 0] ∧ win1_1.index t = ![0, 0]
    ∧ win1_2.index t = ![t.val, 0, 0] ∧ win1_3.index t = ![t.val, 0, 0] := by decide +kernel

/-- The left half of each weight against the points. -/
def uOf (w : Vec Ideal S3x128x128 .f32) (x : Vec Ideal S64x8192 .f32) : Vec Ideal S3x128x8192 .f32 := fun i =>
  (∑ k : Fin 64, (w (ix3 (n0 := 3) (n1 := 128) (n2 := 128) (i 0) (i 1) ⟨k.val, by omega⟩) : EReal)
      * (x (ix2 (n0 := 64) (n1 := 8192) k (i 2)) : EReal) : EReal)

/-- The right half less the left half of each weight against the points. -/
def cOf (w : Vec Ideal S3x128x128 .f32) (x : Vec Ideal S64x8192 .f32) : Vec Ideal S3x128x8192 .f32 := fun i =>
  (∑ k : Fin 64, ((w (ix3 (n0 := 3) (n1 := 128) (n2 := 128) (i 0) (i 1) ⟨64 + k.val, by omega⟩) : EReal)
        - (w (ix3 (n0 := 3) (n1 := 128) (n2 := 128) (i 0) (i 1) ⟨k.val, by omega⟩) : EReal))
      * (x (ix2 (n0 := 64) (n1 := 8192) k (i 2)) : EReal) : EReal)

theorem u_arr (c : Dev nD) : (dat1 V c).arrAt 2 cfg1.N = uOf (V c main_v6) (V c main_v2) := by
  refine (dat1 V c).arrAt_eq_of_covers 2 _ (by decide +kernel) fun t hf y => ?_
  blk_simp; rw [after1_2]; frame_out
  unfold k1_pay3 k1_pay1 k1_pay2 uOf
  pointwise
  blk_point [iblk1, idx1 t]

theorem c_arr (c : Dev nD) : (dat1 V c).arrAt 3 cfg1.N = cOf (V c main_v6) (V c main_v2) := by
  refine (dat1 V c).arrAt_eq_of_covers 3 _ (by decide +kernel) fun t hf y => ?_
  blk_simp; rw [after1_3]; frame_out
  unfold k1_pay4 k1_pay1 k1_pay2 cOf
  pointwise
  blk_point [iblk1, idx1 t]

theorem idx3 : ∀ t : Fin grid3.N, win3_0.index t = ![(grid3.coords t 0).val, (grid3.coords t 1).val, 0, 0]
    ∧ win3_1.index t = ![(grid3.coords t 0).val, 0, (grid3.coords t 1).val]
    ∧ win3_2.index t = ![(grid3.coords t 0).val, 0, 0] ∧ win3_3.index t = ![(grid3.coords t 0).val, 0, 0]
    ∧ win3_4.index t = ![(grid3.coords t 0).val, 0, 0]
    ∧ win3_5.index t = ![(grid3.coords t 0).val, (grid3.coords t 1).val, 0, 0] := by decide +kernel

/-- The normalised activations of the largest neighbours. -/
def finOf (mx : Vec Ideal S3x8x128x1024 .f32) (cc : Vec Ideal S3x128x8192 .f32) (me sc of : Vec Ideal S3x128x1 .f32) :
    Vec Ideal S3x8x128x1024 .f32 := fun i =>
  Knn.act (Ideal.ofBits .f32 0x3E4CCCCD#32) (me (ix3 (n0 := 3) (n1 := 128) (n2 := 1) (i 0) (i 2) 0))
    (sc (ix3 (n0 := 3) (n1 := 128) (n2 := 1) (i 0) (i 2) 0)) (of (ix3 (n0 := 3) (n1 := 128) (n2 := 1) (i 0) (i 2) 0))
    ((mx i : EReal) + (cc (ix3 (n0 := 3) (n1 := 128) (n2 := 8192) (i 0) (i 2)
      ⟨(i 1).val * 1024 + (i 3).val, by have := (i 1).isLt; have := (i 3).isLt; change _ < 8 at *; change _ < 1024 at *; omega⟩) : EReal))

theorem fin_pay (v0 : Vec Ideal S1x1x128x1024 .f32) (v2 : Vec Ideal S1x128x1024 .f32) (v5 v9 v13 : Vec Ideal S1x128x1 .f32)
    (y : S1x1x128x1024.Idx) : k3_pay1 v0 v2 v5 v9 v13 y
      = Knn.act (Ideal.ofBits .f32 0x3E4CCCCD#32) (v5 (ix3 0 (y 2) 0)) (v9 (ix3 0 (y 2) 0)) (v13 (ix3 0 (y 2) 0))
        ((v0 y : EReal) + (v2 (ix3 0 (y 2) (y 3)) : EReal)) := by
  unfold k3_pay1 Knn.act Knn.leaky
  pointwise

theorem fin_arr (c : Dev nD) : (dat3 V c).arrAt 5 cfg3.N
    = finOf (V c main_v8_0) (V c main_v7_1) (V c main_v50) (V c main_v51) (V c main_v52) := by
  refine (dat3 V c).arrAt_eq_of_covers 5 _ (by decide +kernel) fun t hf y => ?_
  blk_simp; rw [after3_5]; frame_out
  rw [fin_pay]
  unfold finOf
  have e0 : iblk3 V c 0 t y = V c main_v8_0 (((View.whole main_v53).slice (win3_5.rect t)).emb y) := by
    blk_ext [iblk3, idx3 t]
  congr 1
  · blk_ext [iblk3, idx3 t]
  · blk_ext [iblk3, idx3 t]
  · blk_ext [iblk3, idx3 t]
  · congr 1
    blk_ext [iblk3, idx3 t]

end Cert.KernelIdeal.Arrays

end
-- ==== Proof.ArraysTopk.lean ====
module

public import proofs.«01_k».proof.Proof.Run
public import proofs.«01_k».proof.Proof.TopkValue
public import Idealize.ShloMosaic.Lib.Pipeline.ValueKit

/-! What each region leaves in its output arrays, as a function of the arrays it finds. -/

@[expose] public section

set_option maxRecDepth 16384
set_option maxHeartbeats 4000000

noncomputable section

namespace Cert.KernelIdeal.Arrays

open Idealize.ShloMosaic Idealize.ShloMosaic.TcCoe Idealize.ShloMosaic.Tactic
open Idealize.SL.Sem
open Cert.KernelIdeal Cert.KernelIdeal.Gen Cert.KernelIdeal.Run
open Idealize.ShloMosaic.Pointwise

variable (V : (c : Dev nD) → (b : Ref sig .tc) → Buf (Elt Ideal) ((c : Thread nD τ).loc b))

theorem idx0 : ∀ t : Fin grid0.N, win0_0.index t = ![(grid0.coords t 0).val, 0, 0]
    ∧ win0_1.index t = ![(grid0.coords t 0).val, 0, (grid0.coords t 1).val]
    ∧ win0_2.index t = ![(grid0.coords t 0).val, 0, (grid0.coords t 1).val] := by decide +kernel

/-- The indices of the best scoring points, by place. -/
def idxOf (x : Vec Ideal S8x64x1024 .f32) : Vec Ideal S8x40x1024 .i32 := fun i =>
  BitVec.ofNat 32 (Knn.pick (fun m => Topk.score (fun k => x (ix3 (n0 := 8) (n1 := 64) (n2 := 1024) (i 0) k (i 2)))
    (fun k => x (ix3 (n0 := 8) (n1 := 64) (n2 := 1024) (i 0) k m))) (i 1).val).val

theorem outs0 (c : Dev nD) (t : Fin grid0.N) : outsAt0 V c t = Topk.rows (k0_pay1 (iblk0 V c 0 t) (iblk0 V c 1 t)) := rfl

theorem emb0 (t : Fin grid0.N) (y : S1x40x256.Idx) : (win0_2.blk t).view.emb y
    = ix3 (n0 := 8) (n1 := 40) (n2 := 1024) (grid0.coords t 0) (y 1)
      ⟨(grid0.coords t 1).val * 256 + (y 2).val, by
        have h1 := (grid0.coords t 1).isLt; have h2 := (y 2).isLt; change _ < 4 at h1; change _ < 256 at h2; omega⟩ := by
  blk_ext [idx0 t]

theorem idx_arr (c : Dev nD) : (dat0 V c).arrAt 2 cfg0.N = idxOf (V c main_arg0) := by
  refine (dat0 V c).arrAt_eq_of_covers 2 _ (by decide +kernel) fun t hf y => ?_
  blk_simp; rw [after0_2, outs0]
  refine (Topk.rows_eq _ y).trans ?_
  refine Eq.trans ?_ (congrArg (idxOf (V c main_arg0)) (emb0 t y).symm)
  refine congrArg (fun f : Fin 1024 → EReal => BitVec.ofNat 32 (Knn.pick f (y 1).val).val) ?_
  funext m
  refine (Topk.pay1 _ _ (y 2) m).trans (congrArg₂ Topk.score ?_ ?_)
  · funext k
    blk_ext [iblk0, idx0 t]
  · funext k
    blk_ext [iblk0, idx0 t]

end Cert.KernelIdeal.Arrays

end
-- ==== Proof.GatherValue.lean ====
module

public import proofs.«01_k».proof.Proof.Gather
public import proofs.«01_k».proof.Proof.Words

/-! The gathering kernel's blocks over exact values: the maximum, the sum and the sum of squares over the chosen
    columns, and the sums of these over the points. -/

@[expose] public section

set_option maxRecDepth 16384

noncomputable section

namespace Cert.KernelIdeal.Gather

open Idealize.ShloMosaic Idealize.ShloMosaic.TcCoe Idealize.ShloMosaic.Tactic
open Cert.KernelIdeal Cert.KernelIdeal.Gen
open Idealize.ShloMosaic.Pointwise

/-- A contraction against one-hot columns takes the columns named. -/
theorem pay8 (v1 : Vec Ideal S1x128x1024 .f32) (v63 : Vec Ideal S1x1x1024 .i32) (o : Fin 128) (n m : Fin 1024)
    (h : v63 (ix3 0 0 n) = BitVec.ofNat 32 m.val) : k2_pay8 v1 v63 (ix2 o n) = v1 (ix3 0 o m) := by
  unfold k2_pay8 k2_pay3
  pointwise
  rw [h]
  refine Eq.trans (Finset.sum_congr rfl fun x _ => congrArg (HMul.hMul _) (Knn.onehot (by omega) (by omega))) ?_
  exact Knn.sum_onehot (fun x => v1 (ix3 0 o x)) m (fun x => x.val = m.val) fun x => Fin.ext_iff.symm

section
variable (x0 : Vec Ideal S1x40x1024 .i32) (x1 : Vec Ideal S1x128x1024 .f32) (σ : Fin 40 → Fin 1024 → Fin 1024)
  (h : ∀ j n, x0 (ix3 0 j n) = BitVec.ofNat 32 (σ j n).val) (o : Fin 128) (n : Fin 1024)
include h

theorem row_pay (j : ℕ) : k2_pay8 x1 (row x0 j) (ix2 o n) = x1 (ix3 0 o (σ (Fin.ofNat 40 j) n)) :=
  pay8 x1 (row x0 j) o n _ (h (Fin.ofNat 40 j) n)

/-- The maximum over the first `k` rows. -/
theorem fold_mx (k : ℕ) : (fold (k2_pay9 x1) x0 (k2_pay5 (F := Ideal)) k (ix2 o n) : EReal)
    = (Finset.range k).sup fun j => x1 (ix3 0 o (σ (Fin.ofNat 40 j) n)) := by
  induction k with
  | zero =>
    unfold fold k2_pay5
    pointwise
    rw [Knn.bot_bits]; rfl
  | succ k ih =>
    rw [Finset.range_add_one, Finset.sup_insert, ← ih, ← row_pay x0 x1 σ h o n k, fold]
    unfold k2_pay9
    pointwise
    exact max_comm _ _

/-- The sum over the first `k` rows. -/
theorem fold_sm (k : ℕ) : (fold (k2_pay10 x1) x0 (k2_pay6 (F := Ideal)) k (ix2 o n) : EReal)
    = ∑ j ∈ Finset.range k, (x1 (ix3 0 o (σ (Fin.ofNat 40 j) n)) : EReal) := by
  induction k with
  | zero =>
    unfold fold k2_pay6
    pointwise
    rfl
  | succ k ih =>
    rw [Finset.sum_range_succ, ← ih, ← row_pay x0 x1 σ h o n k, fold]
    unfold k2_pay10
    pointwise

/-- The sum of squares over the first `k` rows. -/
theorem fold_sq (k : ℕ) : (fold (k2_pay11 x1) x0 (k2_pay7 (F := Ideal)) k (ix2 o n) : EReal)
    = ∑ j ∈ Finset.range k, (x1 (ix3 0 o (σ (Fin.ofNat 40 j) n)) * x1 (ix3 0 o (σ (Fin.ofNat 40 j) n)) : EReal) := by
  induction k with
  | zero =>
    unfold fold k2_pay7
    pointwise
    rfl
  | succ k ih =>
    rw [Finset.sum_range_succ, ← ih, ← row_pay x0 x1 σ h o n k, fold]
    unfold k2_pay11
    pointwise

end

theorem pay4 (v : Vec Ideal S1x128x1024 .f32) (o : Fin 128) (n : Fin 1024) : k2_pay4 v (ix2 o n) = v (ix3 0 o n) := by
  unfold k2_pay4
  pointwise

theorem pay16 (v : Vec Ideal S128x1024 .f32) (y : S1x1x128x1024.Idx) : k2_pay16 v y = v (ix2 (n0 := 128) (n1 := 1024) (y 2) (y 3)) := by
  unfold k2_pay16
  pointwise

/-- The five sums over the points, of which the number selects one. -/
def cols (v s q : Fin 1024 → EReal) : ℕ → EReal
  | 0 => ∑ n, q n
  | 1 => ∑ n, s n
  | 2 => ∑ n, s n * v n
  | 3 => ∑ n, v n
  | 4 => ∑ n, v n * v n
  | _ => 0

/-- The block of statistics as sums over the points. -/
theorem stats_eq (v s q : Vec Ideal S128x1024 .f32) (y : S1x1x128x8.Idx) : (stats v s q y : EReal) =
    cols (fun n => v (ix2 (n0 := 128) (n1 := 1024) (y 2) n)) (fun n => s (ix2 (n0 := 128) (n1 := 1024) (y 2) n))
      (fun n => q (ix2 (n0 := 128) (n1 := 1024) (y 2) n)) (y 3).val := by
  unfold stats
  generalize (y 3).val = k
  rcases k with _ | _ | _ | _ | _ | k
  · unfold cols k2_pay17; pointwise
  · unfold cols k2_pay18; pointwise
  · unfold cols k2_pay19; pointwise
  · unfold cols k2_pay20; pointwise
  · unfold cols k2_pay1 k2_pay21; pointwise
  · exact Ideal.ofBits_zero_f32

end Cert.KernelIdeal.Gather

end
-- ==== Proof.ArraysGather.lean ====
module

public import proofs.«01_k».proof.Proof.Run
public import proofs.«01_k».proof.Proof.GatherValue
public import Idealize.ShloMosaic.Lib.Pipeline.ValueKit

/-! What each region leaves in its output arrays, as a function of the arrays it finds. -/

@[expose] public section

set_option maxRecDepth 16384
set_option maxHeartbeats 4000000

noncomputable section

namespace Cert.KernelIdeal.Arrays

open Idealize.ShloMosaic Idealize.ShloMosaic.TcCoe Idealize.ShloMosaic.Tactic
open Idealize.SL.Sem
open Cert.KernelIdeal Cert.KernelIdeal.Gen Cert.KernelIdeal.Run
open Idealize.ShloMosaic.Pointwise

variable (V : (c : Dev nD) → (b : Ref sig .tc) → Buf (Elt Ideal) ((c : Thread nD τ).loc b))

theorem idx2 : ∀ t : Fin grid2.N, win2_0.index t = ![(grid2.coords t 1).val, 0, 0]
    ∧ win2_1.index t = ![(grid2.coords t 0).val, 0, (grid2.coords t 1).val]
    ∧ win2_2.index t = ![(grid2.coords t 0).val, 0, (grid2.coords t 1).val]
    ∧ win2_3.index t = ![(grid2.coords t 0).val, (grid2.coords t 1).val, 0, 0]
    ∧ win2_4.index t = ![(grid2.coords t 0).val, (grid2.coords t 1).val, 0, 0] := by decide +kernel

/-- Point `m` of cloud `b` as a column. -/
def col (b : Fin 8) (m : Fin 1024) : Fin 8192 := ⟨b.val * 1024 + m.val, by omega⟩

section
variable (u : Vec Ideal S3x128x8192 .f32) (σ : Fin 8 → Fin 40 → Fin 1024 → Fin 1024)

/-- An entry of a point array at a point of a cloud. -/
abbrev at_ (u : Vec Ideal S3x128x8192 .f32) (i : Fin 3) (o : Fin 128) (b : Fin 8) (m : Fin 1024) : EReal :=
  u (ix3 (n0 := 3) (n1 := 128) (n2 := 8192) i o (col b m))

/-- The largest entry over the chosen neighbours. -/
def mxOf : Vec Ideal S3x8x128x1024 .f32 := fun i =>
  (Finset.range (10 * 2 ^ (i 0).val)).sup fun j => at_ u (i 0) (i 2) (i 1) (σ (i 1) (Fin.ofNat 40 j) (i 3))

end

theorem mxOf_ix (u : Vec Ideal S3x128x8192 .f32) (σ : Fin 8 → Fin 40 → Fin 1024 → Fin 1024) (i : Fin 3) (b : Fin 8) (o : Fin 128) (n : Fin 1024) :
    mxOf u σ (ix4 (n0 := 3) (n1 := 8) (n2 := 128) (n3 := 1024) i b o n)
      = (Finset.range (10 * 2 ^ i.val)).sup fun j => at_ u i o b (σ b (Fin.ofNat 40 j) n) := rfl

/-- The five sums over one cloud, of which the number selects one. -/
def stat (u cc : Vec Ideal S3x128x8192 .f32) (σ : Fin 8 → Fin 40 → Fin 1024 → Fin 1024) (i : Fin 3) (b : Fin 8) (o : Fin 128) : ℕ → EReal :=
  Gather.cols (fun n => at_ cc i o b n)
    (fun n => ∑ j ∈ Finset.range (10 * 2 ^ i.val), at_ u i o b (σ b (Fin.ofNat 40 j) n))
    (fun n => ∑ j ∈ Finset.range (10 * 2 ^ i.val), at_ u i o b (σ b (Fin.ofNat 40 j) n) * at_ u i o b (σ b (Fin.ofNat 40 j) n))

/-- The five sums over each cloud. -/
def stOf (u cc : Vec Ideal S3x128x8192 .f32) (σ : Fin 8 → Fin 40 → Fin 1024 → Fin 1024) : Vec Ideal S3x8x128x8 .f32 := fun i =>
  stat u cc σ (i 0) (i 1) (i 2) (i 3).val

theorem stOf_ix (u cc : Vec Ideal S3x128x8192 .f32) (σ : Fin 8 → Fin 40 → Fin 1024 → Fin 1024) (i : Fin 3) (b : Fin 8) (o : Fin 128) (k : Fin 8) :
    stOf u cc σ (ix4 (n0 := 3) (n1 := 8) (n2 := 128) (n3 := 8) i b o k) = stat u cc σ i b o k.val := rfl

theorem outs2_1 (c : Dev nD) (t : Fin grid2.N) :
    (outsAt2 V c t).1 = k2_pay16 (Gather.mx (grid2.coords t) (iblk2 V c 0 t) (iblk2 V c 1 t)) := rfl

theorem outs2_2 (c : Dev nD) (t : Fin grid2.N) : (outsAt2 V c t).2 = Gather.stats (k2_pay4 (iblk2 V c 2 t))
    (Gather.sm (grid2.coords t) (iblk2 V c 0 t) (iblk2 V c 1 t)) (Gather.sq (grid2.coords t) (iblk2 V c 0 t) (iblk2 V c 1 t)) := rfl

section
variable (c : Dev nD) (σ : Fin 8 → Fin 40 → Fin 1024 → Fin 1024)
  (h : V c main_v0 = fun i => BitVec.ofNat 32 (σ (i 0) (i 1) (i 2)).val)
include h

/-- The index block of a grid point names the neighbours in its cloud. -/
theorem blk_idx (t : Fin grid2.N) (j : Fin 40) (n : Fin 1024) :
    iblk2 V c 0 t (ix3 (n0 := 1) (n1 := 40) (n2 := 1024) 0 j n) = BitVec.ofNat 32 (σ (grid2.coords t 1) j n).val := by
  have e : (win2_0.blk t).view.emb (ix3 (n0 := 1) (n1 := 40) (n2 := 1024) 0 j n)
      = ix3 (n0 := 8) (n1 := 40) (n2 := 1024) (grid2.coords t 1) j n := by blk_ext [idx2 t]
  blk_simp [iblk2]
  exact (congrArg (V c main_v0) e).trans (congrFun h _)

omit h in
/-- The block of one point array is the entries at the points of a cloud. -/
theorem blk_u (t : Fin grid2.N) (o : Fin 128) (m : Fin 1024) :
    iblk2 V c 1 t (ix3 (n0 := 1) (n1 := 128) (n2 := 1024) 0 o m) = at_ (V c main_v7_0) (grid2.coords t 0) o (grid2.coords t 1) m := by
  unfold at_ col
  blk_ext [iblk2, idx2 t]

omit h in
theorem blk_c (t : Fin grid2.N) (o : Fin 128) (m : Fin 1024) :
    iblk2 V c 2 t (ix3 (n0 := 1) (n1 := 128) (n2 := 1024) 0 o m) = at_ (V c main_v7_1) (grid2.coords t 0) o (grid2.coords t 1) m := by
  unfold at_ col
  blk_ext [iblk2, idx2 t]

section
variable (t : Fin grid2.N) (o : Fin 128) (n : Fin 1024)

theorem blk_mx : Gather.mx (grid2.coords t) (iblk2 V c 0 t) (iblk2 V c 1 t) (ix2 (n0 := 128) (n1 := 1024) o n)
    = (Finset.range (10 * 2 ^ (grid2.coords t 0).val)).sup fun j => at_ (V c main_v7_0) (grid2.coords t 0) o (grid2.coords t 1)
        (σ (grid2.coords t 1) (Fin.ofNat 40 j) n) := by
  rw [Gather.mx, Gather.count, Gather.fold_mx _ _ (σ (grid2.coords t 1)) (blk_idx V c σ h t) o n]
  simp only [blk_u]

theorem blk_sm : Gather.sm (grid2.coords t) (iblk2 V c 0 t) (iblk2 V c 1 t) (ix2 (n0 := 128) (n1 := 1024) o n)
    = ∑ j ∈ Finset.range (10 * 2 ^ (grid2.coords t 0).val), at_ (V c main_v7_0) (grid2.coords t 0) o (grid2.coords t 1)
        (σ (grid2.coords t 1) (Fin.ofNat 40 j) n) := by
  rw [Gather.sm, Gather.count, Gather.fold_sm _ _ (σ (grid2.coords t 1)) (blk_idx V c σ h t) o n]
  simp only [blk_u]

theorem blk_sq : Gather.sq (grid2.coords t) (iblk2 V c 0 t) (iblk2 V c 1 t) (ix2 (n0 := 128) (n1 := 1024) o n)
    = ∑ j ∈ Finset.range (10 * 2 ^ (grid2.coords t 0).val), at_ (V c main_v7_0) (grid2.coords t 0) o (grid2.coords t 1)
        (σ (grid2.coords t 1) (Fin.ofNat 40 j) n) * at_ (V c main_v7_0) (grid2.coords t 0) o (grid2.coords t 1)
        (σ (grid2.coords t 1) (Fin.ofNat 40 j) n) := by
  rw [Gather.sq, Gather.count, Gather.fold_sq _ _ (σ (grid2.coords t 1)) (blk_idx V c σ h t) o n]
  simp only [blk_u]

omit h in
theorem blk_v : k2_pay4 (iblk2 V c 2 t) (ix2 (n0 := 128) (n1 := 1024) o n)
    = at_ (V c main_v7_1) (grid2.coords t 0) o (grid2.coords t 1) n := by
  rw [Gather.pay4, blk_c]

end

theorem mx_arr : (dat2 V c).arrAt 3 cfg2.N = mxOf (V c main_v7_0) σ := by
  refine (dat2 V c).arrAt_eq_of_covers 3 _ (by decide +kernel) fun t hf y => ?_
  have e : (win2_3.blk t).view.emb y
      = ix4 (n0 := 3) (n1 := 8) (n2 := 128) (n3 := 1024) (grid2.coords t 0) (grid2.coords t 1) (y 2) (y 3) := by blk_ext [idx2 t]
  blk_simp; rw [after2_3, e, outs2_1]
  refine Eq.trans ?_ (mxOf_ix (V c main_v7_0) σ (grid2.coords t 0) (grid2.coords t 1) (y 2) (y 3)).symm
  exact (Gather.pay16 _ y).trans (blk_mx V c σ h t (y 2) (y 3))

theorem st_arr : (dat2 V c).arrAt 4 cfg2.N = stOf (V c main_v7_0) (V c main_v7_1) σ := by
  refine (dat2 V c).arrAt_eq_of_covers 4 _ (by decide +kernel) fun t hf y => ?_
  have e : (win2_4.blk t).view.emb y
      = ix4 (n0 := 3) (n1 := 8) (n2 := 128) (n3 := 8) (grid2.coords t 0) (grid2.coords t 1) (y 2) (y 3) := by blk_ext [idx2 t]
  blk_simp; rw [after2_4, e, outs2_2]
  refine Eq.trans ?_ (stOf_ix (V c main_v7_0) (V c main_v7_1) σ (grid2.coords t 0) (grid2.coords t 1) (y 2) (y 3)).symm
  refine (Gather.stats_eq _ _ _ y).trans ?_
  exact congrFun (congr (congr (congrArg Gather.cols (funext fun n => blk_v V c t (y 2) n)) (funext fun n => blk_sm V c σ h t (y 2) n))
    (funext fun n => blk_sq V c σ h t (y 2) n)) (y 3).val

end

end Cert.KernelIdeal.Arrays

end
-- ==== Proof.Formula.lean ====
module

public import proofs.«01_k».proof.Proof.Norm
public import proofs.«01_k».proof.Proof.Words

/-! The two formulas for one scale, at any number of neighbours: the reference's, which normalises every edge and
    takes the largest activation, and the kernel's, which takes the largest edge first. -/

@[expose] public section

noncomputable section

namespace Cert.Knn

open Idealize.ShloMosaic

/-- The slope of the activation. -/
abbrev slope : EReal := Ideal.ofBits .f32 0x3E4CCCCD#32
/-- The constant added to the variance. -/
abbrev eps : EReal := Ideal.ofBits .f32 0x3727C5AC#32

section
variable {K : ℕ} (y : Fin 8 → Fin 1024 → Fin K → EReal) (N γ β : EReal)

/-- The mean of all edges. -/
def mean : EReal := Ideal.div (∑ b, ∑ n, ∑ j, y b n j) N

/-- The mean squared deviation of all edges. -/
def var : EReal := Ideal.div (∑ b, ∑ n, ∑ j, (y b n j - mean y N) * (y b n j - mean y N)) N

/-- The largest activation of the normalised edges at one point. -/
def refOut (b : Fin 8) (n : Fin 1024) : EReal :=
  Finset.univ.sup fun j => leaky slope (Ideal.div (y b n j - mean y N) (Ideal.sqrt (var y N + eps)) * γ + β)

end

/-- The kernel's mean, from the neighbour count and two of the five sums. -/
def kmean (κ s1 s3 : EReal) : EReal := Ideal.div (s1 + κ * s3) (κ * Ideal.ofBits .f32 0x46000000#32)

/-- The kernel's variance, from the neighbour count and the five sums. -/
def kvar (κ s0 s1 s2 s3 s4 : EReal) : EReal :=
  Ideal.div (s0 + Ideal.ofBits .f32 0x40000000#32 * s2 + κ * s4) (κ * Ideal.ofBits .f32 0x46000000#32)
    - kmean κ s1 s3 * kmean κ s1 s3

theorem slope_nonneg : 0 ≤ slope := by
  have e : slope = ((13421773 / 67108864 : ℝ) : EReal) := by
    simp [slope, Ideal.ofBits, Ideal.ieee, -EReal.coe_mul]; norm_num
  rw [e]; exact_mod_cast (by norm_num : (0 : ℝ) ≤ 13421773 / 67108864)

theorem eps_pos : ∃ e : ℝ, 0 < e ∧ eps = (e : EReal) := by
  refine ⟨2748779 / 274877906944, by norm_num, ?_⟩
  simp [eps, Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem points_eq : Ideal.ofBits .f32 0x46000000#32 = ((8192 : ℝ) : EReal) := by
  simp [Ideal.ofBits, Ideal.ieee, -EReal.coe_mul]; norm_num

theorem coe_sum {ι : Type} [Fintype ι] (f : ι → ℝ) : ∑ i, (f i : EReal) = ((∑ i, f i : ℝ) : EReal) :=
  (map_sum (⟨⟨fun x : ℝ => (x : EReal), EReal.coe_zero⟩, EReal.coe_add⟩ : ℝ →+ EReal) f Finset.univ).symm

section
variable {K : ℕ} (hK : 0 < K) (u : Fin 8 → Fin 1024 → Fin K → ℝ) (c : Fin 8 → Fin 1024 → ℝ)

/-- The sum of all edges, the sum of their squares, the mean and the variance, over the reals. -/
def rmean : ℝ := (∑ b, ∑ n, ∑ j, (u b n j + c b n)) / (K * 8192)
def rvar : ℝ := (∑ b, ∑ n, ∑ j, ((u b n j + c b n) - rmean u c) * ((u b n j + c b n) - rmean u c)) / (K * 8192)

include hK in
theorem count_ne : ((K : ℝ) * 8192) ≠ 0 := by positivity

theorem rvar_nonneg : 0 ≤ rvar u c :=
  div_nonneg (Finset.sum_nonneg fun b _ => Finset.sum_nonneg fun n _ => Finset.sum_nonneg fun j _ => mul_self_nonneg _)
    (by positivity)

include hK in
theorem mean_real : mean (fun b n j => ((u b n j + c b n : ℝ) : EReal)) ((K * 8192 : ℝ) : EReal) = (rmean u c : EReal) := by
  unfold mean rmean
  simp only [coe_sum]
  rw [Ideal.div_coe (count_ne hK), ← EReal.coe_mul, mul_one_div]

include hK in
theorem var_real : var (fun b n j => ((u b n j + c b n : ℝ) : EReal)) ((K * 8192 : ℝ) : EReal) = (rvar u c : EReal) := by
  unfold var rvar
  simp only [mean_real hK, ← EReal.coe_sub, ← EReal.coe_mul, coe_sum]
  rw [Ideal.div_coe (count_ne hK), ← EReal.coe_mul, mul_one_div]

include hK in
theorem kmean_real : kmean ((K : ℝ) : EReal) ((∑ b, ∑ n, ∑ j, u b n j : ℝ) : EReal) ((∑ b, ∑ n, c b n : ℝ) : EReal)
    = (rmean u c : EReal) := by
  unfold kmean rmean
  rw [points_eq, ← EReal.coe_mul, ← EReal.coe_mul, ← EReal.coe_add, Ideal.div_coe (count_ne hK), ← EReal.coe_mul, mul_one_div,
    sum_split]

include hK in
theorem kvar_real : kvar ((K : ℝ) : EReal) ((∑ b, ∑ n, ∑ j, u b n j * u b n j : ℝ) : EReal)
      ((∑ b, ∑ n, ∑ j, u b n j : ℝ) : EReal) ((∑ b, ∑ n, (∑ j, u b n j) * c b n : ℝ) : EReal)
      ((∑ b, ∑ n, c b n : ℝ) : EReal) ((∑ b, ∑ n, c b n * c b n : ℝ) : EReal)
    = (rvar u c : EReal) := by
  unfold kvar
  rw [kmean_real hK, points_eq, two_eq, ← EReal.coe_mul, ← EReal.coe_mul, ← EReal.coe_mul, ← EReal.coe_add, ← EReal.coe_add,
    Ideal.div_coe (count_ne hK), ← EReal.coe_mul, mul_one_div, ← EReal.coe_mul, ← EReal.coe_sub, ← sq_split]
  refine congrArg _ (var_split (fun b n j => u b n j + c b n) _ (count_ne hK) ?_ _ rfl).symm
  simp; ring

include hK in
/-- The kernel's formula is the reference's: normalising the largest neighbour with the statistics of the two parts gives
    the largest normalised edge. -/
theorem equation (γ β : EReal) (hγ : 0 ≤ γ) (b : Fin 8) (n : Fin 1024) :
    act slope (rmean u c : EReal) (γ * Ideal.rsqrt ((rvar u c : EReal) + eps)) β
        ((Finset.univ.sup fun j => (u b n j : EReal)) + (c b n : EReal))
      = refOut (fun b n j => ((u b n j + c b n : ℝ) : EReal)) ((K * 8192 : ℝ) : EReal) γ β b n := by
  obtain ⟨e, he, hE⟩ := eps_pos
  have hp : 0 < rvar u c + e := add_pos_of_nonneg_of_pos (rvar_nonneg u c) he
  have hs : 0 < Real.sqrt (rvar u c + e) := Real.sqrt_pos.2 hp
  have hr : Ideal.rsqrt ((rvar u c : EReal) + eps) = ((1 / Real.sqrt (rvar u c + e) : ℝ) : EReal) := by
    rw [hE, ← EReal.coe_add, one_div]
    exact (if_neg hp.not_gt).trans (if_neg hp.ne')
  have hq : Ideal.sqrt ((rvar u c : EReal) + eps) = ((Real.sqrt (rvar u c + e) : ℝ) : EReal) := by
    rw [hE, ← EReal.coe_add]
    exact if_neg hp.not_gt
  have h1 : (0 : EReal) ≤ ((1 / Real.sqrt (rvar u c + e) : ℝ) : EReal) := by exact_mod_cast (by positivity)
  rw [act_sup hK _ _ _ _ slope_nonneg (by rw [hr]; exact mul_nonneg hγ h1)]
  unfold refOut
  rw [mean_real hK, var_real hK, hr, hq]
  refine congrArg _ (funext fun j => ?_)
  unfold act
  rw [Ideal.div_coe hs.ne', ← EReal.coe_add, mul_comm γ, mul_assoc]

end

end Cert.Knn

end
-- ==== Proof.HostRead.lean ====
module

public import proofs.«01_k».proof.Proof.Run
public import proofs.«01_k».proof.Proof.Formula
public import Idealize.ShloMosaic.Lib.StableHlo.ReadAt

/-! What the operations between the four calls compute, read at an index. -/

@[expose] public section

set_option maxHeartbeats 2000000

noncomputable section

namespace Cert.KernelIdeal.HostRead

open Idealize.ShloMosaic
open Idealize.ShloMosaic.Pointwise
open Cert.KernelIdeal Cert.KernelIdeal.Gen

variable (X : Valuation τ sig (Elt Ideal))

/-- One of three, by the scale. -/
def at3 {T : Type} (a b c : T) : Fin 3 → T
  | 0 => a
  | 1 => b
  | 2 => c

/-- The numbers of neighbours. -/
theorem counts (i : Fin 3) : (StableHlo.after hostOps0 X (Proc.devRef .tc main_cst) : Vec Ideal S3 .f32) (ix1 (n0 := 3) i)
    = (((10 * 2 ^ i.val : ℕ) : ℝ) : EReal) := by
  after_reads_simp
  have e : ∀ i : Fin 3, lit0 (S3.rowMajor (ix1 (n0 := 3) i)) = at3 0x41200000#32 0x41A00000#32 0x42200000#32 i := by decide
  refine (congrArg (Ideal.ofBits .f32) (e i)).trans ?_
  match i with
  | 0 | 1 | 2 => simp [at3, Ideal.ofBits, Ideal.ieee, -EReal.coe_mul]; norm_num

/-- The points, each batch's beside the last's. -/
theorem points (k : Fin 64) (b : Fin 8) (n : Fin 1024) :
    (StableHlo.after hostOps1 X (Proc.devRef .tc main_v2) : Vec Ideal S64x8192 .f32)
        (ix2 (n0 := 64) (n1 := 8192) k ⟨b.val * 1024 + n.val, by omega⟩)
      = (X (Proc.devRef .tc main_arg0) : Vec Ideal S8x64x1024 .f32) (ix3 (n0 := 8) (n1 := 64) (n2 := 1024) b k n) := by
  after_reads_at

/-- The weights, one scale above the other. -/
theorem weights (i : Fin 3) (o k : Fin 128) :
    (StableHlo.after hostOps1 X (Proc.devRef .tc main_v6) : Vec Ideal S3x128x128 .f32) (ix3 (n0 := 3) (n1 := 128) (n2 := 128) i o k)
      = (at3 (X (Proc.devRef .tc main_arg1)) (X (Proc.devRef .tc main_arg2)) (X (Proc.devRef .tc main_arg3)) i
          : Vec Ideal S128x128 .f32) (ix2 (n0 := 128) (n1 := 128) o k) := by
  match i with
  | 0 | 1 | 2 =>
    after_reads_at
    after_reads_at
    rfl

/-- One column of the statistics over all batches. -/
abbrev tot (i : Fin 3) (o : Fin 128) (k : Fin 8) : EReal :=
  ∑ b : Fin 8, ((X (Proc.devRef .tc main_v8_1) : Vec Ideal S3x8x128x8 .f32) (ix4 (n0 := 3) (n1 := 8) (n2 := 128) (n3 := 8) i b o k) : EReal)

/-- The mean. -/
theorem mean (i : Fin 3) (o : Fin 128) :
    (StableHlo.after hostOps3 X (Proc.devRef .tc main_v50) : Vec Ideal S3x128x1 .f32) (ix3 (n0 := 3) (n1 := 128) (n2 := 1) i o 0)
      = Knn.kmean ((X (Proc.devRef .tc main_cst) : Vec Ideal S3 .f32) (ix1 (n0 := 3) i)) (tot X i o 1) (tot X i o 3) := by
  after_reads_at
  rfl

/-- The scale. -/
theorem scale (i : Fin 3) (o : Fin 128) :
    (StableHlo.after hostOps3 X (Proc.devRef .tc main_v51) : Vec Ideal S3x128x1 .f32) (ix3 (n0 := 3) (n1 := 128) (n2 := 1) i o 0)
      = (at3 (X (Proc.devRef .tc main_arg4)) (X (Proc.devRef .tc main_arg5)) (X (Proc.devRef .tc main_arg6)) i
          : Vec Ideal S128 .f32) (ix1 (n0 := 128) o)
        * Ideal.rsqrt (Knn.kvar ((X (Proc.devRef .tc main_cst) : Vec Ideal S3 .f32) (ix1 (n0 := 3) i))
            (tot X i o 0) (tot X i o 1) (tot X i o 2) (tot X i o 3) (tot X i o 4) + Knn.eps) := by
  match i with
  | 0 | 1 | 2 =>
    after_reads_at
    after_reads_at
    rfl

/-- The offset. -/
theorem offset (i : Fin 3) (o : Fin 128) :
    (StableHlo.after hostOps3 X (Proc.devRef .tc main_v52) : Vec Ideal S3x128x1 .f32) (ix3 (n0 := 3) (n1 := 128) (n2 := 1) i o 0)
      = (at3 (X (Proc.devRef .tc main_arg7)) (X (Proc.devRef .tc main_arg8)) (X (Proc.devRef .tc main_arg9)) i
          : Vec Ideal S128 .f32) (ix1 (n0 := 128) o) := by
  match i with
  | 0 | 1 | 2 =>
    after_reads_at
    after_reads_at
    rfl

/-- The results are the three scales. -/
theorem results (i : Fin 3) (b : Fin 8) (o : Fin 128) (n : Fin 1024) :
    (at3 (StableHlo.after hostOps4 X (Proc.devRef .tc main_v55) : Vec Ideal S8x128x1024 .f32)
        (StableHlo.after hostOps4 X (Proc.devRef .tc main_v57)) (StableHlo.after hostOps4 X (Proc.devRef .tc main_v59)) i)
        (ix3 (n0 := 8) (n1 := 128) (n2 := 1024) b o n)
      = (X (Proc.devRef .tc main_v53) : Vec Ideal S3x8x128x1024 .f32) (ix4 (n0 := 3) (n1 := 8) (n2 := 128) (n3 := 1024) i b o n) := by
  match i with
  | 0 | 1 | 2 =>
    unfold at3
    after_reads_at

end Cert.KernelIdeal.HostRead

end
-- ==== Proof.Edge.lean ====
module

public import proofs.«01_k».proof.Proof.Formula
public import proofs.«01_k».proof.Proof.Select
public import proofs.«01_k».proof.Proof.TopkValue

/-! Scores and edges of finite points under finite weights, over the real numbers. -/

@[expose] public section

noncomputable section

namespace Cert.Knn

open Idealize.ShloMosaic
open Cert.KernelIdeal

/-- A point under the left half of one channel's weights. -/
def near (w : Fin 128 → ℝ) (x : Fin 64 → ℝ) : ℝ := ∑ k : Fin 64, w ⟨k.val, by omega⟩ * x k

/-- A point under the right half less the left half. -/
def base (w : Fin 128 → ℝ) (x : Fin 64 → ℝ) : ℝ := ∑ k : Fin 64, (w ⟨64 + k.val, by omega⟩ - w ⟨k.val, by omega⟩) * x k

/-- Minus the squared distance of two points. -/
def rscore (x y : Fin 64 → ℝ) : ℝ := 2 * (∑ k, x k * y k) - (∑ k, x k * x k) - ∑ k, y k * y k

/-- The `j`-th neighbour of a point of a cloud. -/
def near_by (X : Fin 8 → Fin 64 → Fin 1024 → ℝ) (b : Fin 8) (n : Fin 1024) (j : ℕ) : Fin 1024 :=
  pick (fun q => (rscore (fun k => X b k n) (fun k => X b k q) : EReal)) j

variable {w : Fin 128 → ℝ} {x y : Fin 64 → ℝ} {W : Fin 128 → EReal} {p q : Fin 64 → EReal}
  (hW : ∀ k, W k = (w k : EReal)) (hp : ∀ k, p k = (x k : EReal)) (hq : ∀ k, q k = (y k : EReal))

include hW hp in
theorem near_real : ∑ k : Fin 64, W ⟨k.val, by omega⟩ * p k = (near w x : EReal) := by
  simp only [hW, hp, ← EReal.coe_mul, coe_sum, near]

include hW hp in
theorem base_real : ∑ k : Fin 64, (W ⟨64 + k.val, by omega⟩ - W ⟨k.val, by omega⟩) * p k = (base w x : EReal) := by
  simp only [hW, hp, ← EReal.coe_mul, ← EReal.coe_sub, coe_sum, base]

include hW hp hq in
/-- An edge is the neighbour's part plus the point's own. -/
theorem edge_real : (∑ k : Fin 64, (p k - q k) * W ⟨k.val, by omega⟩) + ∑ k : Fin 64, q k * W ⟨64 + k.val, by omega⟩
    = ((near w x + base w y : ℝ) : EReal) := by
  simp only [hW, hp, hq, ← EReal.coe_mul, ← EReal.coe_sub, coe_sum, ← EReal.coe_add]
  refine congrArg _ ?_
  unfold near base
  rw [← Finset.sum_add_distrib, ← Finset.sum_add_distrib]
  exact Finset.sum_congr rfl fun k _ => by ring

include hp hq in
/-- The kernel's score. -/
theorem score_real : Topk.score p q = (rscore x y : EReal) := by
  have h2 : (2 : EReal) = ((2 : ℝ) : EReal) := rfl
  unfold Topk.score rscore
  simp only [h2, hp, hq, ← EReal.coe_mul, ← EReal.coe_sub, coe_sum]

include hp hq in
/-- The reference's score. -/
theorem dist_real : -(∑ k, q k * q k) - Ideal.ofBits .f32 0xC0000000#32 * (∑ k, p k * q k) - ∑ k, p k * p k
    = (rscore x y : EReal) := by
  have h2 : Ideal.ofBits .f32 0xC0000000#32 = ((-2 : ℝ) : EReal) := by
    simp [Ideal.ofBits, Ideal.ieee, -EReal.coe_mul]; norm_num
  unfold rscore
  simp only [h2, hp, hq, ← EReal.coe_mul, ← EReal.coe_sub, ← EReal.coe_neg, coe_sum]
  refine congrArg _ ?_
  ring

/-- The columns of the statistics of one cloud, when all is finite. -/
theorem cols_sum {K : ℕ} (u : Fin 8 → Fin 1024 → Fin K → ℝ) (c : Fin 8 → Fin 1024 → ℝ) :
    (∑ b, ∑ n, ∑ j, (u b n j : EReal) * (u b n j : EReal)) = ((∑ b, ∑ n, ∑ j, u b n j * u b n j : ℝ) : EReal)
    ∧ (∑ b, ∑ n, ∑ j, (u b n j : EReal)) = ((∑ b, ∑ n, ∑ j, u b n j : ℝ) : EReal)
    ∧ (∑ b, ∑ n, (∑ j, (u b n j : EReal)) * (c b n : EReal)) = ((∑ b, ∑ n, (∑ j, u b n j) * c b n : ℝ) : EReal)
    ∧ (∑ b, ∑ n, (c b n : EReal)) = ((∑ b, ∑ n, c b n : ℝ) : EReal)
    ∧ (∑ b, ∑ n, (c b n : EReal) * (c b n : EReal)) = ((∑ b, ∑ n, c b n * c b n : ℝ) : EReal) := by
  simp only [← EReal.coe_mul, coe_sum, and_self]

end Cert.Knn

end
-- ==== Proof.Result.lean ====
module

public import proofs.«01_k».proof.Proof.Arrays
public import proofs.«01_k».proof.Proof.ArraysTopk
public import proofs.«01_k».proof.Proof.ArraysGather
public import proofs.«01_k».proof.Proof.HostRead
public import proofs.«01_k».proof.Proof.Edge

/-! What the kernel leaves in its three results, when its points and weights are finite. -/

@[expose] public section

set_option maxRecDepth 16384
set_option maxHeartbeats 1000000

noncomputable section

/-- The largest of the values over the numbers below `K`. -/
theorem Cert.Knn.sup_range {K : ℕ} (f : ℕ → EReal) : (Finset.range K).sup f = Finset.univ.sup fun j : Fin K => f j.val :=
  le_antisymm (Finset.sup_le fun j hj => Finset.le_sup (f := fun j : Fin K => f j.val) (Finset.mem_univ ⟨j, Finset.mem_range.1 hj⟩))
    (Finset.sup_le fun j _ => Finset.le_sup (f := f) (Finset.mem_range.2 j.isLt))

namespace Cert.KernelIdeal.Result

open Idealize.ShloMosaic Idealize.ShloMosaic.TcCoe
open Cert.KernelIdeal Cert.KernelIdeal.Gen Cert.KernelIdeal.Run Cert.KernelIdeal.Arrays Cert.KernelIdeal.HostRead
open Idealize.ShloMosaic.Pointwise

variable (m : (ℓ : Loc nD τ sig) → Buf (Elt Ideal) ℓ) (ρ : Dev nD → PrngReg) (c : Dev nD)

/-- An argument as it is at the start. -/
abbrev arg (r : Ref sig .tc) : Buf (Elt Ideal) ((c : Thread nD τ).loc r) := m ((c : Thread nD τ).loc r)

/-- The neighbours the first call chooses. -/
def chosen (b : Fin 8) (j : Fin 40) (n : Fin 1024) : Fin 1024 :=
  Knn.pick (fun q => Topk.score (fun k => (arg m c main_arg0 : Vec Ideal S8x64x1024 .f32) (ix3 (n0 := 8) (n1 := 64) (n2 := 1024) b k n))
    (fun k => (arg m c main_arg0 : Vec Ideal S8x64x1024 .f32) (ix3 (n0 := 8) (n1 := 64) (n2 := 1024) b k q))) j.val

theorem idx_entry : V4 m ρ c main_v0 = fun i => BitVec.ofNat 32 (chosen m c (i 0) (i 1) (i 2)).val := by
  refine (W4_of_ne m ρ c main_v0 (by decide)).trans ((W3_of m ρ c main_v0 (by decide)).trans ?_)
  refine (W2_arr m ρ c 2).trans ((idx_arr (V1 m ρ) c).trans ?_)
  exact congrArg idxOf (W1_args m ρ c main_arg0 (by decide))

theorem u_entry : V4 m ρ c main_v7_0 = uOf (V3 m ρ c main_v6) (V3 m ρ c main_v2) :=
  (W4_arr m ρ c 2).trans (u_arr (V3 m ρ) c)

theorem c_entry : V4 m ρ c main_v7_1 = cOf (V3 m ρ c main_v6) (V3 m ρ c main_v2) :=
  (W4_arr m ρ c 3).trans (c_arr (V3 m ρ) c)

theorem mx_entry : V6 m ρ c main_v8_0 = mxOf (V4 m ρ c main_v7_0) (chosen m c) :=
  (W6_of m ρ c main_v8_0 (by decide)).trans ((W5_arr m ρ c 3).trans (mx_arr (V4 m ρ) c (chosen m c) (idx_entry m ρ c)))

theorem st_entry : V5 m ρ c main_v8_1 = stOf (V4 m ρ c main_v7_0) (V4 m ρ c main_v7_1) (chosen m c) :=
  (W5_arr m ρ c 4).trans (st_arr (V4 m ρ) c (chosen m c) (idx_entry m ρ c))

theorem c_kept : V6 m ρ c main_v7_1 = V4 m ρ c main_v7_1 :=
  (W6_of m ρ c main_v7_1 (by decide)).trans (W5_of m ρ c main_v7_1 (by decide))

theorem counts_entry (i : Fin 3) : (V5 m ρ c main_cst : Vec Ideal S3 .f32) (ix1 (n0 := 3) i) = (((10 * 2 ^ i.val : ℕ) : ℝ) : EReal) := by
  refine (congrFun ((W5_of_ne m ρ c main_cst (by decide)).trans ((W4_of_ne m ρ c main_cst (by decide)).trans
    ((W3_of m ρ c main_cst (by decide)).trans (W2_of_ne m ρ c main_cst (by decide))))) (ix1 (n0 := 3) i)).trans ?_
  exact counts (W0 m ρ c) i

theorem fin_entry : V7 m ρ c main_v53 = finOf (V6 m ρ c main_v8_0) (V6 m ρ c main_v7_1) (V6 m ρ c main_v50) (V6 m ρ c main_v51)
    (V6 m ρ c main_v52) :=
  (W7_arr m ρ c 5).trans (fin_arr (V6 m ρ) c)

section
variable (X : Fin 8 → Fin 64 → Fin 1024 → ℝ) (w : Fin 3 → Fin 128 → Fin 128 → ℝ)
  (hX : ∀ b k n, (arg m c main_arg0 : Vec Ideal S8x64x1024 .f32) (ix3 (n0 := 8) (n1 := 64) (n2 := 1024) b k n) = (X b k n : EReal))
  (hw : ∀ i o k, (at3 (arg m c main_arg1) (arg m c main_arg2) (arg m c main_arg3) i : Vec Ideal S128x128 .f32)
    (ix2 (n0 := 128) (n1 := 128) o k) = (w i o k : EReal))

include hX in
theorem chosen_eq (b : Fin 8) (j : Fin 40) (n : Fin 1024) : chosen m c b j n = Knn.near_by X b n j.val := by
  unfold chosen Knn.near_by
  exact congrArg (fun s => Knn.pick s j.val) (funext fun q => Knn.score_real (fun k => hX b k n) (fun k => hX b k q))

include hX in
theorem x_entry (k : Fin 64) (b : Fin 8) (n : Fin 1024) :
    (V3 m ρ c main_v2 : Vec Ideal S64x8192 .f32) (ix2 (n0 := 64) (n1 := 8192) k (col b n)) = (X b k n : EReal) :=
  (points (W2 m ρ c) k b n).trans ((congrFun (W2_args m ρ c main_arg0 (by decide)) _).trans (hX b k n))

include hw in
theorem w_entry (i : Fin 3) (o k : Fin 128) :
    (V3 m ρ c main_v6 : Vec Ideal S3x128x128 .f32) (ix3 (n0 := 3) (n1 := 128) (n2 := 128) i o k) = (w i o k : EReal) := by
  refine (weights (W2 m ρ c) i o k).trans (Eq.trans ?_ (hw i o k))
  match i with
  | 0 => exact congrFun (W2_args m ρ c main_arg1 (by decide)) _
  | 1 => exact congrFun (W2_args m ρ c main_arg2 (by decide)) _
  | 2 => exact congrFun (W2_args m ρ c main_arg3 (by decide)) _

include hX hw in
theorem u_real (i : Fin 3) (o : Fin 128) (b : Fin 8) (n : Fin 1024) :
    at_ (V4 m ρ c main_v7_0) i o b n = (Knn.near (w i o) (fun k => X b k n) : EReal) := by
  refine (congrFun (u_entry m ρ c) _).trans ?_
  exact Knn.near_real (W := fun k => (V3 m ρ c main_v6 : Vec Ideal S3x128x128 .f32) (ix3 (n0 := 3) (n1 := 128) (n2 := 128) i o k))
    (p := fun k => (V3 m ρ c main_v2 : Vec Ideal S64x8192 .f32) (ix2 (n0 := 64) (n1 := 8192) k (col b n)))
    (fun k => w_entry m ρ c w hw i o k) (fun k => x_entry m ρ c X hX k b n)

include hX hw in
theorem c_real (i : Fin 3) (o : Fin 128) (b : Fin 8) (n : Fin 1024) :
    at_ (V4 m ρ c main_v7_1) i o b n = (Knn.base (w i o) (fun k => X b k n) : EReal) := by
  refine (congrFun (c_entry m ρ c) _).trans ?_
  exact Knn.base_real (W := fun k => (V3 m ρ c main_v6 : Vec Ideal S3x128x128 .f32) (ix3 (n0 := 3) (n1 := 128) (n2 := 128) i o k))
    (p := fun k => (V3 m ρ c main_v2 : Vec Ideal S64x8192 .f32) (ix2 (n0 := 64) (n1 := 8192) k (col b n)))
    (fun k => w_entry m ρ c w hw i o k) (fun k => x_entry m ρ c X hX k b n)

/-- A neighbour's part of an edge, and the point's own. -/
abbrev U (i : Fin 3) (o : Fin 128) (b : Fin 8) (n : Fin 1024) (j : Fin (10 * 2 ^ i.val)) : ℝ :=
  Knn.near (w i o) fun k => X b k (Knn.near_by X b n j.val)
abbrev C (i : Fin 3) (o : Fin 128) (b : Fin 8) (n : Fin 1024) : ℝ := Knn.base (w i o) fun k => X b k n

include hX hw in
theorem nb_real (i : Fin 3) (o : Fin 128) (b : Fin 8) (n : Fin 1024) (j : Fin (10 * 2 ^ i.val)) :
    at_ (V4 m ρ c main_v7_0) i o b (chosen m c b (Fin.ofNat 40 j.val) n) = (U X w i o b n j : EReal) := by
  have hj : j.val < 40 := j.isLt.trans_le (by match i with | 0 | 1 | 2 => decide)
  rw [u_real m ρ c X w hX hw, chosen_eq m c X hX]
  refine congrArg (fun q : ℕ => ((Knn.near (w i o) fun k => X b k (Knn.near_by X b n q) : ℝ) : EReal)) ?_
  exact Nat.mod_eq_of_lt hj

include hX hw in
theorem mx_real (i : Fin 3) (o : Fin 128) (b : Fin 8) (n : Fin 1024) :
    (V6 m ρ c main_v8_0 : Vec Ideal S3x8x128x1024 .f32) (ix4 (n0 := 3) (n1 := 8) (n2 := 128) (n3 := 1024) i b o n)
      = Finset.univ.sup fun j => (U X w i o b n j : EReal) := by
  refine (congrFun (mx_entry m ρ c) _).trans ((mxOf_ix _ _ i b o n).trans ((Knn.sup_range _).trans ?_))
  exact congrArg _ (funext fun j => nb_real m ρ c X w hX hw i o b n j)

include hX hw in
theorem tot_real (i : Fin 3) (o : Fin 128) (k : Fin 8) : tot (W5 m ρ c) i o k
    = ∑ b, Gather.cols (fun n => (C X w i o b n : EReal)) (fun n => ∑ j, (U X w i o b n j : EReal))
        (fun n => ∑ j, (U X w i o b n j : EReal) * (U X w i o b n j : EReal)) k.val := by
  refine Finset.sum_congr rfl fun b _ => ?_
  refine (congrFun (st_entry m ρ c) _).trans ((stOf_ix _ _ _ i b o k).trans ?_)
  unfold stat
  refine congrFun (congr (congr (congrArg Gather.cols (funext fun n => c_real m ρ c X w hX hw i o b n)) (funext fun n => ?_))
    (funext fun n => ?_)) k.val
  · exact (Finset.sum_range _).trans (Finset.sum_congr rfl fun j _ => nb_real m ρ c X w hX hw i o b n j)
  · refine (Finset.sum_range _).trans (Finset.sum_congr rfl fun j _ => ?_)
    exact congrArg₂ (fun p q : EReal => p * q) (nb_real m ρ c X w hX hw i o b n j) (nb_real m ρ c X w hX hw i o b n j)

theorem some_near (i : Fin 3) : 0 < 10 * 2 ^ i.val := by positivity

include hX hw in
theorem mean_real (i : Fin 3) (o : Fin 128) :
    (V6 m ρ c main_v50 : Vec Ideal S3x128x1 .f32) (ix3 (n0 := 3) (n1 := 128) (n2 := 1) i o 0)
      = (Knn.rmean (U X w i o) (C X w i o) : EReal) := by
  obtain ⟨h0, h1, h2, h3, h4⟩ := Knn.cols_sum (U X w i o) (C X w i o)
  refine (HostRead.mean (W5 m ρ c) i o).trans (Eq.trans ?_ (Knn.kmean_real (some_near i) (U X w i o) (C X w i o)))
  exact congr (congr (congrArg Knn.kmean (counts_entry m ρ c i)) ((tot_real m ρ c X w hX hw i o 1).trans h1))
    ((tot_real m ρ c X w hX hw i o 3).trans h3)

include hX hw in
theorem var_real (i : Fin 3) (o : Fin 128) :
    Knn.kvar ((V5 m ρ c main_cst : Vec Ideal S3 .f32) (ix1 (n0 := 3) i)) (tot (W5 m ρ c) i o 0) (tot (W5 m ρ c) i o 1)
        (tot (W5 m ρ c) i o 2) (tot (W5 m ρ c) i o 3) (tot (W5 m ρ c) i o 4)
      = (Knn.rvar (U X w i o) (C X w i o) : EReal) := by
  obtain ⟨h0, h1, h2, h3, h4⟩ := Knn.cols_sum (U X w i o) (C X w i o)
  refine Eq.trans ?_ (Knn.kvar_real (some_near i) (U X w i o) (C X w i o))
  exact congr (congr (congr (congr (congr (congrArg Knn.kvar (counts_entry m ρ c i)) ((tot_real m ρ c X w hX hw i o 0).trans h0))
    ((tot_real m ρ c X w hX hw i o 1).trans h1)) ((tot_real m ρ c X w hX hw i o 2).trans h2))
    ((tot_real m ρ c X w hX hw i o 3).trans h3)) ((tot_real m ρ c X w hX hw i o 4).trans h4)

/-- The factor and the offset of one channel. -/
abbrev gam (i : Fin 3) (o : Fin 128) : EReal :=
  (at3 (arg m c main_arg4) (arg m c main_arg5) (arg m c main_arg6) i : Vec Ideal S128 .f32) (ix1 (n0 := 128) o)
abbrev bet (i : Fin 3) (o : Fin 128) : EReal :=
  (at3 (arg m c main_arg7) (arg m c main_arg8) (arg m c main_arg9) i : Vec Ideal S128 .f32) (ix1 (n0 := 128) o)

include hX hw in
theorem scale_real (i : Fin 3) (o : Fin 128) :
    (V6 m ρ c main_v51 : Vec Ideal S3x128x1 .f32) (ix3 (n0 := 3) (n1 := 128) (n2 := 1) i o 0)
      = gam m c i o * Ideal.rsqrt ((Knn.rvar (U X w i o) (C X w i o) : EReal) + Knn.eps) := by
  refine (HostRead.scale (W5 m ρ c) i o).trans ?_
  refine congrArg₂ (fun p q : EReal => p * Ideal.rsqrt (q + Knn.eps)) ?_ (var_real m ρ c X w hX hw i o)
  match i with
  | 0 => exact congrFun (W5_args m ρ c main_arg4 (by decide)) _
  | 1 => exact congrFun (W5_args m ρ c main_arg5 (by decide)) _
  | 2 => exact congrFun (W5_args m ρ c main_arg6 (by decide)) _

theorem offset_real (i : Fin 3) (o : Fin 128) :
    (V6 m ρ c main_v52 : Vec Ideal S3x128x1 .f32) (ix3 (n0 := 3) (n1 := 128) (n2 := 1) i o 0) = bet m c i o := by
  refine (HostRead.offset (W5 m ρ c) i o).trans ?_
  match i with
  | 0 => exact congrFun (W5_args m ρ c main_arg7 (by decide)) _
  | 1 => exact congrFun (W5_args m ρ c main_arg8 (by decide)) _
  | 2 => exact congrFun (W5_args m ρ c main_arg9 (by decide)) _

include hX hw in
/-- Each result is the largest normalised edge over its number of neighbours. -/
theorem value (i : Fin 3) (b : Fin 8) (o : Fin 128) (n : Fin 1024) (hγ : 0 ≤ gam m c i o) :
    (at3 (W8 m ρ c (Proc.devRef .tc main_v55) : Vec Ideal S8x128x1024 .f32)
        (W8 m ρ c (Proc.devRef .tc main_v57)) (W8 m ρ c (Proc.devRef .tc main_v59)) i)
        (ix3 (n0 := 8) (n1 := 128) (n2 := 1024) b o n)
      = Knn.refOut (fun b n j => ((U X w i o b n j + C X w i o b n : ℝ) : EReal)) ((((10 * 2 ^ i.val : ℕ) : ℝ) * 8192 : ℝ) : EReal)
          (gam m c i o) (bet m c i o) b n := by
  refine (results (W7 m ρ c) i b o n).trans ((congrFun (fin_entry m ρ c) _).trans ?_)
  refine Eq.trans ?_ (Knn.equation (some_near i) (U X w i o) (C X w i o) (gam m c i o) (bet m c i o) hγ b n)
  exact congr (congr (congr (congrArg (Knn.act Knn.slope) (mean_real m ρ c X w hX hw i o)) (scale_real m ρ c X w hX hw i o))
    (offset_real m ρ c i o)) (congrArg₂ (fun p q : EReal => p + q) (mx_real m ρ c X w hX hw i o b n)
      ((congrFun (c_kept m ρ c) _).trans (c_real m ρ c X w hX hw i o b n)))

end

end Cert.KernelIdeal.Result

end
-- ==== Proof.RefBase.lean ====
module

public import proofs.«01_k».proof.Proof.Words
public import Idealize.ShloMosaic.Lib.Pointwise
public import Idealize.ShloMosaic.Lib.Routing.Ops
public import Idealize.ShloMosaic.Lib.Tactic.WordOmega

/-! Host operations read at an index at any number of neighbours: the indices of the greatest scores, the index words
    made from them, the range check of a row gather, and the sum over all axes but one. -/

@[expose] public section

set_option maxRecDepth 16384

noncomputable section

namespace Cert.Knn

open Idealize.ShloMosaic

/-- The indices of the greatest scores are the picks. -/
theorem topK_pick {K : ℕ} (x : (⟨3, ![8, 1024, 1024]⟩ : Shape).Idx → EReal)
    (h : (⟨3, ![8, 1024, 1024]⟩ : Shape).Slices (fun _ => 0) ⟨3, ![8, 1024, K]⟩) (b : Fin 8) (n : Fin 1024) (j : Fin K)
    (hx : ∀ m, ⊥ < x (ix3 b n m)) (hj : j.val < 1024) :
    (Host.topK ⟨3, ![8, 1024, K]⟩ 2 (FloatOps.cmpfTotal (F := Ideal) (φ := .f32) .gt) x h).2 (ix3 b n j)
      = BitVec.ofNat 32 (pick (fun m => x (ix3 b n m)) j.val).val := by
  have key : sortedFrom (fun k k' : Fin 1024 =>
      Ideal.cmpTotal .gt (x (ix3 b n k)) (x (ix3 b n k')) == 1#1) (⟨j.val, hj⟩ : Fin 1024)
      = pick (fun m => x (ix3 b n m)) j.val := by
    refine sortedFrom_gt (fun m => x (ix3 b n m)) hx _ (fun a c => ?_) ⟨j.val, hj⟩
    simp only [Ideal.cmpTotal, Ideal.cmp, CmpDirection.ordered, beq_iff_eq]
    by_cases hlt : x (ix3 b n c) < x (ix3 b n a) <;> simp [hlt]
  rw [← key]
  have hJ : (fun a => ⟨0 + ((ix3 b n j) (a.cast h.1.symm)).val, Nat.lt_of_lt_of_le (Nat.add_lt_add_left ((ix3 b n j) _).isLt _) (h.2 a)⟩
      : (⟨3, ![8, 1024, 1024]⟩ : Shape).Idx) = ix3 b n ⟨j.val, hj⟩ := by
    funext a; apply Fin.ext
    match a with
    | ⟨0, _⟩ => exact Nat.zero_add _
    | ⟨1, _⟩ => exact Nat.zero_add _
    | ⟨2, _⟩ => exact Nat.zero_add _
  have al : ∀ k : Fin 1024, (ix3 b n (⟨j.val, hj⟩ : Fin 1024)).along 2 k = ix3 b n k := by
    intro k; funext a
    match a with
    | ⟨0, _⟩ => rfl
    | ⟨1, _⟩ => rfl
    | ⟨2, _⟩ => rfl
  unfold Host.topK Host.sort2 extractStridedSlice
  simp only [hJ]
  simp only [show (2 < (⟨3, ![8, 1024, 1024]⟩ : Shape).rank) = True from eq_true (by decide), dite_true]
  have h2 : 2 < (⟨3, ![8, 1024, 1024]⟩ : Shape).rank := by decide
  have al' : ∀ k : Fin 1024, (ix3 b n (⟨j.val, hj⟩ : Fin 1024)).along ⟨2, h2⟩ k
      = ix3 b n k := al
  have L : ∀ k : Fin 1024, iotaInDim (⟨3, ![8, 1024, 1024]⟩ : Shape) 32 ⟨2, h2⟩
      ((ix3 b n (⟨j.val, hj⟩ : Fin 1024)).along ⟨2, h2⟩ k) = BitVec.ofNat 32 k.val := fun k => by
    rw [al' k]; rfl
  refine (L _).trans ?_
  have hR : (fun k k' : Fin 1024 => FloatOps.cmpfTotal (F := Ideal) (φ := .f32) CmpDirection.gt
        (x ((ix3 b n (⟨j.val, hj⟩ : Fin 1024)).along ⟨2, h2⟩ k))
        (x ((ix3 b n (⟨j.val, hj⟩ : Fin 1024)).along ⟨2, h2⟩ k')) == 1#1)
      = fun k k' => Ideal.cmpTotal .gt (x (ix3 b n k)) (x (ix3 b n k')) == 1#1 := by
    funext k k'
    rw [al' k, al' k']; rfl
  exact congrArg (fun R : Fin 1024 → Fin 1024 → Bool => BitVec.ofNat 32 (sortedFrom R (⟨j.val, hj⟩ : Fin 1024)).val) hR

/-- The row number of a point in its cloud's block of rows, clipped and shifted. -/
theorem flat_word {b s : ℕ} (hb : b < 8) (hs : s < 1024) :
    IntOp.addi (IntOp.muli (BitVec.ofNat 32 b) 1024#32) (IntOp.minsi 1023#32 (IntOp.maxsi 0#32 (BitVec.ofNat 32 s)))
      = BitVec.ofNat 32 (b * 1024 + s) := by
  have e1 : (BitVec.ofNat 32 s).toInt = s := toInt_ofNat (by omega)
  have h1 : IntOp.maxsi 0#32 (BitVec.ofNat 32 s) = BitVec.ofNat 32 s := by
    unfold IntOp.maxsi
    rw [if_neg (by rw [BitVec.slt_iff_toInt_lt, e1]; simp)]
  have h2 : IntOp.minsi 1023#32 (BitVec.ofNat 32 s) = BitVec.ofNat 32 s := by
    unfold IntOp.minsi
    split_ifs with hlt
    · rw [BitVec.slt_iff_toInt_lt, e1, show (1023#32).toInt = 1023 from by decide] at hlt; omega
    · rfl
  rw [h1, h2]
  apply BitVec.eq_of_toNat_eq
  simp only [IntOp.addi, IntOp.muli, BitVec.toNat_add, BitVec.toNat_mul, BitVec.toNat_ofNat]
  omega

/-- A row number is not negative, so it is not shifted. -/
theorem start_word {q : ℕ} (hq : q < 8192) :
    Scalar.select (IntOp.cmpi .slt (BitVec.ofNat 32 q) 0#32) (IntOp.addi (BitVec.ofNat 32 q) 8192#32) (BitVec.ofNat 32 q)
      = BitVec.ofNat 32 q := by
  apply BitVec.eq_of_toNat_eq; word_omega

/-- A row number is within the rows. -/
theorem in_rows {q : ℕ} (hq : q < 8192) (f : Fin 1 → BitVec 32) (hf : f 0 = BitVec.ofNat 32 q) :
    Finset.fold IntOp.andi (1#1) (fun x => IntOp.andi (IntOp.cmpi .sge (f x) 0#32) (IntOp.cmpi .sle (f x) 8191#32)) Finset.univ
      = 1#1 := by
  have e : (Finset.univ : Finset (Fin 1)) = {0} := rfl
  have e1 : (BitVec.ofNat 32 q).toInt = q := toInt_ofNat (by omega)
  have h1 : IntOp.cmpi .sge (BitVec.ofNat 32 q) 0#32 = 1#1 := by word_omega
  have h2 : IntOp.cmpi .sle (BitVec.ofNat 32 q) 8191#32 = 1#1 := by word_omega
  rw [e, Finset.fold_singleton, hf, h1, h2]
  rfl

/-- The sum over all axes but the second. -/
theorem sum_but_one {n0 n1 n2 n3 : ℕ} (h : (⟨4, ![n0, n1, n2, n3]⟩ : Shape).ReducesTo [0, 2, 3] ⟨1, ![n1]⟩)
    (v : (⟨4, ![n0, n1, n2, n3]⟩ : Shape).Idx → EReal) (o : Fin n1) :
    Ideal.hostReduceAdd h v 0 (ix1 o) = ∑ b : Fin n0, ∑ n : Fin n2, ∑ k : Fin n3, v (ix4 b o n k) := by
  have fib : ∀ i, h.drop i = ix1 o ↔ ∃ k : Fin n0 × Fin n2 × Fin n3, ix4 k.1 o k.2.1 k.2.2 = i := by
    intro i
    constructor
    · intro e
      refine ⟨(i 0, i 2, i 3), ?_⟩
      funext a; apply Fin.ext
      match a with
      | ⟨0, _⟩ => rfl
      | ⟨1, _⟩ => exact (congrArg Fin.val (congrFun e 0)).symm
      | ⟨2, _⟩ => rfl
      | ⟨3, _⟩ => rfl
    · rintro ⟨k, rfl⟩
      funext a; apply Fin.ext
      match a with
      | ⟨0, _⟩ => rfl
  unfold Ideal.hostReduceAdd
  rw [zero_add]
  refine (Finset.sum_filter_eq_sum_of_fiber _ (fun k : Fin n0 × Fin n2 × Fin n3 => ix4 k.1 o k.2.1 k.2.2)
    (fun _ _ e => Prod.ext (congrFun e 0) (Prod.ext (congrFun e 2) (congrFun e 3))) fib v).trans ?_
  simp only [Fintype.sum_prod_type]

end Cert.Knn

end
-- ==== Proof.RefScore.lean ====
module

public import proofs.«01_k».proof.Proof.Gen.ReferenceIdeal.Run
public import proofs.«01_k».proof.Proof.RefBase
public import proofs.«01_k».proof.Proof.Formula
public import Idealize.ShloMosaic.Lib.Tactic.CleanTypes

/-! The reference's scores and its points as rows. -/

@[expose] public section

set_option maxRecDepth 16384
set_option maxHeartbeats 1000000

noncomputable section

namespace Cert.ReferenceIdeal.Reading

open Idealize.ShloMosaic Idealize.ShloMosaic.TcCoe Idealize.ShloMosaic.Tactic
open Cert.ReferenceIdeal Cert.ReferenceIdeal.Gen Cert.ReferenceIdeal.Value

variable (V0 : Valuation τ sig (Elt Ideal))

/-- Channel `k` of point `n` of cloud `b`. -/
abbrev pt (b : Fin 8) (k : Fin 64) (n : Fin 1024) : EReal :=
  V0 (Proc.devRef .tc main_arg0) (ix3 (n0 := 8) (n1 := 64) (n2 := 1024) b k n)

/-- The score of point `m` for point `n` of cloud `b`. -/
abbrev sc (b : Fin 8) (n m : Fin 1024) : EReal :=
  res_main_v12 V0 (ix3 (n0 := 8) (n1 := 1024) (n2 := 1024) b n m)

/-- The `j`-th neighbour of point `n` of cloud `b`. -/
def nbr (b : Fin 8) (n : Fin 1024) (j : ℕ) : Fin 1024 := Knn.pick (sc V0 b n) j

theorem sc_eq (b : Fin 8) (n m : Fin 1024) : sc V0 b n m
    = -(∑ k, pt V0 b k m * pt V0 b k m) - Ideal.ofBits .f32 0xC0000000#32 * (∑ k, pt V0 b k n * pt V0 b k m)
      - ∑ k, pt V0 b k n * pt V0 b k n := by
  have e : ∀ n, res_main_v6 V0 (ix3 (n0 := 8) (n1 := 1) (n2 := 1024) b 0 n) = ∑ k, pt V0 b k n * pt V0 b k n := by
    intro n
    unfold res_main_v6
    clean_types
    pointwise
  unfold sc res_main_v12
  clean_types
  pointwise
  exact congrArg₂ (fun p q : EReal => -p - Ideal.ofBits .f32 0xC0000000#32 * (∑ k, pt V0 b k n * pt V0 b k m) - q) (e m) (e n)

/-- A point as a row. -/
theorem rows (b : Fin 8) (n : Fin 1024) (k : Fin 64) :
    res_main_v14 V0 (ix3 (n0 := 8) (n1 := 1024) (n2 := 64) b n k) = pt V0 b k n := by
  unfold res_main_v14
  clean_types
  pointwise

/-- The points as one array of rows. -/
theorem flat_rows (x : (⟨3, ![8, 1024, 64]⟩ : Shape).Idx → EReal) (b : Fin 8) (m : Fin 1024) (k : Fin 64) :
    shapeCast S8192x64 x shapeCasts_S8x1024x64_S8192x64 (ix2 (n0 := 8192) (n1 := 64) ⟨b.val * 1024 + m.val, by omega⟩ k) = x (ix3 b m k) := by
  pointwise

end Cert.ReferenceIdeal.Reading

end
-- ==== Proof.RefNorm.lean ====
module

public import proofs.«01_k».proof.Proof.RefBase
public import proofs.«01_k».proof.Proof.Formula

/-! The reference's normalisation read at an edge, at any number `K` of neighbours. -/

@[expose] public section

noncomputable section

namespace Cert.Knn

open Idealize.ShloMosaic

/-- The edges' shape, the shape of one number to a channel that is spread over the edges, and a channel's own. -/
abbrev SE (K : ℕ) : Shape := ⟨4, ![8, 128, 1024, K]⟩
abbrev SC : Shape := ⟨4, ![1, 128, 1, 1]⟩
abbrev SO : Shape := ⟨1, ![128]⟩
abbrev S0 : Shape := ⟨0, ![]⟩

section
variable {α : Type} {K : ℕ}

theorem spread_edges (h : SC.BroadcastsInDim (SE K) (![0, 1, 2, 3] : Fin 4 → Fin 4)) (x : SC.Idx → α) (b : Fin 8) (o : Fin 128)
    (n : Fin 1024) (j : Fin K) :
    broadcastInDim (SE K) ![0, 1, 2, 3] h x (ix4 (n0 := 8) (n1 := 128) (n2 := 1024) (n3 := K) b o n j)
      = x (ix4 (n0 := 1) (n1 := 128) (n2 := 1) (n3 := 1) 0 o 0 0) := by
  unfold broadcastInDim
  refine congrArg x (funext fun a => ?_)
  match a with
  | ⟨0, _⟩ => rfl
  | ⟨1, _⟩ => rfl
  | ⟨2, _⟩ => rfl
  | ⟨3, _⟩ => rfl

theorem spread_channel (h : SO.BroadcastsInDim SC (![1] : Fin 1 → Fin 4)) (x : SO.Idx → α) (o : Fin 128) :
    broadcastInDim SC ![1] h x (ix4 (n0 := 1) (n1 := 128) (n2 := 1) (n3 := 1) 0 o 0 0) = x (ix1 (n0 := 128) o) := by
  unfold broadcastInDim
  refine congrArg x (funext fun a => ?_)
  match a with
  | ⟨0, _⟩ => rfl

theorem spread_one (h : S0.BroadcastsInDim SC (![] : Fin 0 → Fin 4)) (x : S0.Idx → α) (i : SC.Idx) :
    broadcastInDim SC ![] h x i = x ix0 :=
  congrArg x (funext fun a => a.elim0)

end

section
variable {K : ℕ} (h4 : SC.BroadcastsInDim (SE K) (![0, 1, 2, 3] : Fin 4 → Fin 4)) (h1 : SO.BroadcastsInDim SC (![1] : Fin 1 → Fin 4))
  (h0 : S0.BroadcastsInDim SC (![] : Fin 0 → Fin 4)) (hr : (SE K).ReducesTo [0, 2, 3] SO) (hs : 0 < S0.numel)
  (y d : FVec Ideal (SE K) .f32) (γ β : FVec Ideal SO .f32) (cnt : FVec Ideal S0 .f32) (Nb : BitVec 32)
  (b : Fin 8) (o : Fin 128) (n : Fin 1024) (j : Fin K)

/-- One channel of an array of edges. -/
abbrev chan (y : FVec Ideal (SE K) .f32) (o : Fin 128) (b : Fin 8) (n : Fin 1024) (j : Fin K) : EReal :=
  y (ix4 (n0 := 8) (n1 := 128) (n2 := 1024) (n3 := K) b o n j)

theorem sum_channel : Host.reduceAdd y (constant S0 .f32 0x00000000#32) hr hs (ix1 (n0 := 128) o) = ∑ b, ∑ n, ∑ j, chan y o b n j := by
  have e : Ideal.ofBits .f32 0x00000000#32 = 0 := by simp [Ideal.ofBits, Ideal.ieee]
  show Ideal.hostReduceAdd hr y (Ideal.ofBits .f32 0x00000000#32) (ix1 o) = _
  rw [e, sum_but_one]

/-- An edge less the mean of its channel. -/
theorem dev_at :
    subf y (broadcastInDim (SE K) ![0, 1, 2, 3] h4 (Host.divf
        (broadcastInDim SC ![1] h1 (Host.reduceAdd y (constant S0 .f32 0x00000000#32) hr hs))
        (broadcastInDim SC ![] h0 (constant S0 .f32 Nb)))) (ix4 (n0 := 8) (n1 := 128) (n2 := 1024) (n3 := K) b o n j)
      = chan y o b n j - mean (chan y o) (Ideal.ofBits .f32 Nb) := by
  refine congrArg₂ (fun p q : EReal => p - q) rfl ((spread_edges h4 _ b o n j).trans ?_)
  exact congrArg₂ Ideal.div ((spread_channel h1 _ o).trans (sum_channel hr hs y o)) (spread_one h0 _ _)

variable (hd : ∀ b n j, chan d o b n j = chan y o b n j - mean (chan y o) (Ideal.ofBits .f32 Nb))
  (hc : cnt ix0 = Ideal.ofBits .f32 Nb) (hN : 0 < Ideal.ofBits .f32 Nb)

include hd hc hN in
/-- The variance of a channel, its number of edges being positive. -/
theorem var_at :
    select (broadcastInDim SC ![] h0 (cmpf .ogt cnt (constant S0 .f32 0x00000000#32)))
        (Host.divf (broadcastInDim SC ![1] h1 (Host.reduceAdd (mulf d d) (constant S0 .f32 0x00000000#32) hr hs))
          (broadcastInDim SC ![] h0 cnt))
        (broadcastInDim SC ![] h0 (id (constant S0 .f32 0x7FC00000#32) : FVec Ideal S0 .f32))
        (ix4 (n0 := 1) (n1 := 128) (n2 := 1) (n3 := 1) 0 o 0 0)
      = var (chan y o) (Ideal.ofBits .f32 Nb) := by
  have e : Ideal.ofBits .f32 0x00000000#32 = 0 := by simp [Ideal.ofBits, Ideal.ieee]
  have hp : broadcastInDim SC ![] h0 (cmpf .ogt cnt (constant S0 .f32 0x00000000#32))
      (ix4 (n0 := 1) (n1 := 128) (n2 := 1) (n3 := 1) 0 o 0 0) = 1#1 := by
    refine (spread_one h0 _ _).trans ?_
    show Ideal.cmp .ogt (cnt ix0) (Ideal.ofBits .f32 0x00000000#32) = 1#1
    rw [hc, e]
    simp [Ideal.cmp, hN]
  refine (congrArg (fun c => Scalar.select c _ _) hp).trans ?_
  refine congrArg₂ Ideal.div ((spread_channel h1 _ o).trans ((sum_channel hr hs (mulf d d) o).trans ?_)) ((spread_one h0 _ _).trans hc)
  exact Finset.sum_congr rfl fun b _ => Finset.sum_congr rfl fun n _ => Finset.sum_congr rfl fun j _ =>
    congrArg₂ (fun p q : EReal => p * q) (hd b n j) (hd b n j)

include hd hc hN in
/-- A normalised edge. -/
theorem norm_at :
    addf (mulf (Host.divf
        (subf y (broadcastInDim (SE K) ![0, 1, 2, 3] h4 (Host.divf
          (broadcastInDim SC ![1] h1 (Host.reduceAdd y (constant S0 .f32 0x00000000#32) hr hs))
          (broadcastInDim SC ![] h0 (constant S0 .f32 Nb)))))
        (broadcastInDim (SE K) ![0, 1, 2, 3] h4 (Host.sqrt (addf
          (select (broadcastInDim SC ![] h0 (cmpf .ogt cnt (constant S0 .f32 0x00000000#32)))
            (Host.divf (broadcastInDim SC ![1] h1 (Host.reduceAdd (mulf d d) (constant S0 .f32 0x00000000#32) hr hs))
              (broadcastInDim SC ![] h0 cnt))
            (broadcastInDim SC ![] h0 (id (constant S0 .f32 0x7FC00000#32) : FVec Ideal S0 .f32)))
          (broadcastInDim SC ![] h0 (constant S0 .f32 0x3727C5AC#32))))))
        (broadcastInDim (SE K) ![0, 1, 2, 3] h4 (broadcastInDim SC ![1] h1 γ)))
        (broadcastInDim (SE K) ![0, 1, 2, 3] h4 (broadcastInDim SC ![1] h1 β))
        (ix4 (n0 := 8) (n1 := 128) (n2 := 1024) (n3 := K) b o n j)
      = Ideal.div (chan y o b n j - mean (chan y o) (Ideal.ofBits .f32 Nb))
          (Ideal.sqrt (var (chan y o) (Ideal.ofBits .f32 Nb) + eps)) * γ (ix1 (n0 := 128) o) + β (ix1 (n0 := 128) o) := by
  refine congrArg₂ (fun p q : EReal => p + q) (congrArg₂ (fun p q : EReal => p * q) (congrArg₂ Ideal.div
    (dev_at h4 h1 h0 hr hs y Nb b o n j) ((spread_edges h4 _ b o n j).trans ?_))
    ((spread_edges h4 _ b o n j).trans (spread_channel h1 γ o))) ((spread_edges h4 _ b o n j).trans (spread_channel h1 β o))
  refine congrArg Ideal.sqrt (congrArg₂ (fun p q : EReal => p + q) (var_at h1 h0 hr hs y d cnt Nb o hd hc hN) ?_)
  exact spread_one h0 _ _

end

end Cert.Knn

end
-- ==== Proof.Ref10.lean ====
module

public import proofs.«01_k».proof.Proof.RefScore
public import proofs.«01_k».proof.Proof.RefNorm

/-! The reference's results with 10 neighbours. -/

@[expose] public section

set_option maxRecDepth 16384
set_option maxHeartbeats 4000000

noncomputable section

namespace Cert.ReferenceIdeal.Reading.K10

open Idealize.ShloMosaic Idealize.ShloMosaic.TcCoe Idealize.ShloMosaic.Tactic
open Cert.ReferenceIdeal Cert.ReferenceIdeal.Gen Cert.ReferenceIdeal.Value

variable (V0 : Valuation τ sig (Elt Ideal)) (hs : ∀ b n m, ⊥ < sc V0 b n m)

/-- An edge's row number. -/
abbrev edge (b : Fin 8) (n : Fin 1024) (j : Fin 10) : Fin 81920 := ⟨b.val * 10240 + n.val * 10 + j.val, by omega⟩

include hs in
/-- The row numbers of the neighbours. -/
theorem flat (b : Fin 8) (n : Fin 1024) (j : Fin 10) :
    res_main_v22 V0 (ix1 (n0 := 81920) (edge b n j)) = BitVec.ofNat 32 (b.val * 1024 + (nbr V0 b n j.val).val) := by
  have e1 : (b.val * 10240 + n.val * 10 + j.val) / 10240 = b.val := by omega
  have e2 : (b.val * 10240 + n.val * 10 + j.val) / 10 % 1024 = n.val := by omega
  have e3 : (b.val * 10240 + n.val * 10 + j.val) % 10 = j.val := by omega
  unfold res_main_v22
  clean_types
  pointwise
  simp only [e1, e2, e3, Fin.eta]
  exact (congrArg (fun w => IntOp.addi (IntOp.muli (BitVec.ofNat 32 b.val) 1024#32) (IntOp.minsi 1023#32 (IntOp.maxsi 0#32 w)))
    (Knn.topK_pick (res_main_v12 V0) sliceFits_S8x1024x1024_S8x1024x10 b n j (hs b n) (by omega))).trans
    (Knn.flat_word b.isLt (nbr V0 b n j.val).isLt)

include hs in
/-- The row numbers as the gather takes them. -/
theorem start (b : Fin 8) (n : Fin 1024) (j : Fin 10) : res_main_call1_v5 V0 (ix2 (n0 := 81920) (n1 := 1) (edge b n j) 0)
    = BitVec.ofNat 32 (b.val * 1024 + (nbr V0 b n j.val).val) := by
  unfold res_main_call1_v5
  clean_types
  pointwise
  rw [flat V0 hs]
  exact Knn.start_word (by have := (nbr V0 b n j.val).isLt; omega)

/-- The centre of an edge. -/
theorem centre (b : Fin 8) (n : Fin 1024) (j : Fin 10) (k : Fin 64) :
    res_main_v26 V0 (ix4 (n0 := 8) (n1 := 1024) (n2 := 10) (n3 := 64) b n j k) = pt V0 b k n := by
  unfold res_main_v26
  clean_types
  pointwise
  exact rows V0 b n k

include hs in
/-- The gathered row of an edge. -/
theorem picked (b : Fin 8) (n : Fin 1024) (j : Fin 10) (k : Fin 64) :
    Host.gather gather_S8192x64_S81920x1_S81920x64_1_0_n_n_0_1_164
      (shapeCast S8192x64 (res_main_v14 V0) shapeCasts_S8x1024x64_S8192x64) (res_main_call1_v5 V0)
      (ix2 (n0 := 81920) (n1 := 64) (edge b n j) k) = pt V0 b k (nbr V0 b n j.val) := by
  have h := (nbr V0 b n j.val).isLt
  refine (Routing.gather_row (nb := 8192) (B := 64) (n := 81920) gather_S8192x64_S81920x1_S81920x64_1_0_n_n_0_1_164
    rfl rfl rfl rfl rfl _ (res_main_call1_v5 V0) (edge b n j) k ⟨b.val * 1024 + (nbr V0 b n j.val).val, by omega⟩ (start V0 hs b n j) (by norm_num)).trans ?_
  exact (flat_rows (res_main_v14 V0) b (nbr V0 b n j.val) k).trans (rows V0 b (nbr V0 b n j.val) k)

include hs in
/-- The gathered row less the centre. The row number is within the rows. -/
theorem edge_diff (b : Fin 8) (n : Fin 1024) (j : Fin 10) (k : Fin 64) :
    (Scalar.select (Finset.fold IntOp.andi (1#1) (fun x : Fin 1 => IntOp.andi
          (IntOp.cmpi .sge (res_main_call1_v5 V0 (ix2 (n0 := 81920) (n1 := 1) (edge b n j) x)) 0#32)
          (IntOp.cmpi .sle (res_main_call1_v5 V0 (ix2 (n0 := 81920) (n1 := 1) (edge b n j) x)) 8191#32)) Finset.univ)
        (Host.gather gather_S8192x64_S81920x1_S81920x64_1_0_n_n_0_1_164
          (shapeCast S8192x64 (res_main_v14 V0) shapeCasts_S8x1024x64_S8192x64) (res_main_call1_v5 V0)
          (ix2 (n0 := 81920) (n1 := 64) (edge b n j) k))
        (Ideal.ofBits .f32 0x7FC00000#32) : EReal) - res_main_v26 V0 (ix4 (n0 := 8) (n1 := 1024) (n2 := 10) (n3 := 64) b n j k)
      = pt V0 b k (nbr V0 b n j.val) - pt V0 b k n := by
  have hq := (nbr V0 b n j.val).isLt
  have e := Knn.in_rows (q := b.val * 1024 + (nbr V0 b n j.val).val) (by omega)
    (fun x : Fin 1 => res_main_call1_v5 V0 (ix2 (n0 := 81920) (n1 := 1) (edge b n j) x)) (start V0 hs b n j)
  refine congrArg₂ (fun p q : EReal => p - q) ?_ (centre V0 b n j k)
  refine (congrArg (fun c => Scalar.select c _ (Ideal.ofBits .f32 0x7FC00000#32)) e).trans ?_
  exact picked V0 hs b n j k

/-- An edge's value for one output channel. -/
abbrev y (o : Fin 128) (b : Fin 8) (n : Fin 1024) (j : Fin 10) : EReal :=
  res_main_v31 V0 (ix4 (n0 := 8) (n1 := 128) (n2 := 1024) (n3 := 10) b o n j)

/-- A row of the list of rows, laid out by cloud, point and neighbour. -/
theorem unflat (g : FVec Ideal S81920x64 .f32) (b : Fin 8) (n : Fin 1024) (j : Fin 10) (k : Fin 64) :
    (shapeCast S8x1024x10x64 g shapeCasts_S81920x64_S8x1024x10x64) (ix4 (n0 := 8) (n1 := 1024) (n2 := 10) (n3 := 64) b n j k)
      = g (ix2 (n0 := 81920) (n1 := 64) (edge b n j) k) := by
  pointwise

/-- A choice of rows by one word to a row. -/
theorem choose (q : IVec S81920x1 1) (g h : FVec Ideal S81920x64 .f32) (e : Fin 81920) (k : Fin 64) :
    select (broadcastInDim S81920x64 ![0] bcast_S81920_S81920x64_0 (Host.reduce IntOp.andi q (constantI S_ 1 1#1) reducesTo_S81920x1_S81920_d1 h_S_)) g h
        (ix2 (n0 := 81920) (n1 := 64) e k)
      = Scalar.select (Finset.fold IntOp.andi (1#1) (fun x : Fin 1 => q (ix2 (n0 := 81920) (n1 := 1) e x)) Finset.univ)
          (g (ix2 (n0 := 81920) (n1 := 64) e k)) (h (ix2 (n0 := 81920) (n1 := 64) e k)) := by
  pointwise

/-- The range check at a row number. -/
theorem check (q : IVec S81920x1 32) (e : Fin 81920) (x : Fin 1) :
    andi (cmpi .sge q (broadcastInDim S81920x1 ![] bcast_S_S81920x1 (constantI S_ 32 0#32))) (cmpi .sle q (broadcastInDim S81920x1 ![0, 1] bcast_S1x1_S81920x1_0_1 (broadcastInDim S1x1 ![1] bcast_S1_S1x1_1 (constantI S1 32 8191#32))))
        (ix2 (n0 := 81920) (n1 := 1) e x)
      = IntOp.andi (IntOp.cmpi .sge (q (ix2 (n0 := 81920) (n1 := 1) e x)) 0#32) (IntOp.cmpi .sle (q (ix2 (n0 := 81920) (n1 := 1) e x)) 8191#32) := rfl

/-- A difference read at an index. -/
theorem minus {S : Shape} (x c : FVec Ideal S .f32) (i : S.Idx) : subf x c i = (x i : EReal) - c i := rfl

/-- The rows taken where the row number is in range, less the centres. -/
theorem taken (q : IVec S81920x1 32) (g z : FVec Ideal S81920x64 .f32) (c : FVec Ideal S8x1024x10x64 .f32) (b : Fin 8) (n : Fin 1024) (j : Fin 10) (k : Fin 64) :
    (subf (shapeCast S8x1024x10x64 (select (broadcastInDim S81920x64 ![0] bcast_S81920_S81920x64_0 (Host.reduce IntOp.andi (andi (cmpi .sge q (broadcastInDim S81920x1 ![] bcast_S_S81920x1 (constantI S_ 32 0#32))) (cmpi .sle q (broadcastInDim S81920x1 ![0, 1] bcast_S1x1_S81920x1_0_1 (broadcastInDim S1x1 ![1] bcast_S1_S1x1_1 (constantI S1 32 8191#32))))) (constantI S_ 1 1#1) reducesTo_S81920x1_S81920_d1 h_S_)) g z) shapeCasts_S81920x64_S8x1024x10x64) c)
        (ix4 (n0 := 8) (n1 := 1024) (n2 := 10) (n3 := 64) b n j k)
      = (Scalar.select (Finset.fold IntOp.andi (1#1) (fun x : Fin 1 => IntOp.andi
          (IntOp.cmpi .sge (q (ix2 (n0 := 81920) (n1 := 1) (edge b n j) x)) 0#32)
          (IntOp.cmpi .sle (q (ix2 (n0 := 81920) (n1 := 1) (edge b n j) x)) 8191#32)) Finset.univ)
        (g (ix2 (n0 := 81920) (n1 := 64) (edge b n j) k))
        (z (ix2 (n0 := 81920) (n1 := 64) (edge b n j) k)) : EReal) - c (ix4 (n0 := 8) (n1 := 1024) (n2 := 10) (n3 := 64) b n j k) := by
  refine (minus _ c _).trans (congrArg (fun p : EReal => p - c (ix4 (n0 := 8) (n1 := 1024) (n2 := 10) (n3 := 64) b n j k)) ?_)
  refine (unflat _ b n j k).trans ((choose _ _ _ (edge b n j) k).trans ?_)
  exact congrArg (fun f => Scalar.select (Finset.fold IntOp.andi (1#1) f Finset.univ) _ _) (funext fun x => check q (edge b n j) x)

include hs in
/-- The gathered rows less the centres, as the reference lays them out. -/
theorem less (b : Fin 8) (n : Fin 1024) (j : Fin 10) (k : Fin 64) :
    (subf (shapeCast S8x1024x10x64 (select (broadcastInDim S81920x64 ![0] bcast_S81920_S81920x64_0 (Host.reduce IntOp.andi (andi (cmpi .sge (res_main_call1_v5 V0) (broadcastInDim S81920x1 ![] bcast_S_S81920x1 (constantI S_ 32 0#32))) (cmpi .sle (res_main_call1_v5 V0) (broadcastInDim S81920x1 ![0, 1] bcast_S1x1_S81920x1_0_1 (broadcastInDim S1x1 ![1] bcast_S1_S1x1_1 (constantI S1 32 8191#32))))) (constantI S_ 1 1#1) reducesTo_S81920x1_S81920_d1 h_S_)) (Host.gather gather_S8192x64_S81920x1_S81920x64_1_0_n_n_0_1_164 (shapeCast _ (res_main_v14 V0) shapeCasts_S8x1024x64_S8192x64) (res_main_call1_v5 V0)) (broadcastInDim S81920x64 ![] bcast_S_S81920x64 (constant S_ .f32 0x7FC00000#32))) shapeCasts_S81920x64_S8x1024x10x64) (res_main_v26 V0) : FVec Ideal S8x1024x10x64 .f32)
        (ix4 (n0 := 8) (n1 := 1024) (n2 := 10) (n3 := 64) b n j k) = pt V0 b k (nbr V0 b n j.val) - pt V0 b k n := by
  exact (taken (res_main_call1_v5 V0) (Host.gather gather_S8192x64_S81920x1_S81920x64_1_0_n_n_0_1_164 (shapeCast S8192x64 (res_main_v14 V0) shapeCasts_S8x1024x64_S8192x64) (res_main_call1_v5 V0)) _ (res_main_v26 V0) b n j k).trans (edge_diff V0 hs b n j k)

/-- Products of the joined halves with the weights. -/
theorem joined (a c : FVec Ideal S8x1024x10x64 .f32) (W : FVec Ideal S128x128 .f32) (o : Fin 128) (b : Fin 8) (n : Fin 1024) (j : Fin 10) :
    transpose S8x128x1024x10 [0, 3, 1, 2] (Host.dotGeneral dot_S8x128x1024x10_S128x128_S8x1024x10x128_1_1_023_0_n_n none (transpose S8x128x1024x10 [0, 3, 1, 2] (concatenate S8x1024x10x128 3 [⟨S8x1024x10x64, a⟩, ⟨S8x1024x10x64, c⟩] concatenates_S8x1024x10x64_S8x1024x10x64_S8x1024x10x128_d3) transposes_S8x1024x10x128_S8x128x1024x10_0_3_1_2) W) transposes_S8x1024x10x128_S8x128x1024x10_0_3_1_2
        (ix4 (n0 := 8) (n1 := 128) (n2 := 1024) (n3 := 10) b o n j)
      = (∑ k : Fin 64, a (ix4 (n0 := 8) (n1 := 1024) (n2 := 10) (n3 := 64) b n j k) * W (ix2 (n0 := 128) (n1 := 128) o ⟨k.val, by omega⟩))
        + ∑ k : Fin 64, c (ix4 (n0 := 8) (n1 := 1024) (n2 := 10) (n3 := 64) b n j k) * W (ix2 (n0 := 128) (n1 := 128) o ⟨64 + k.val, by omega⟩) := by
  pointwise

include hs in
theorem y_eq (o : Fin 128) (b : Fin 8) (n : Fin 1024) (j : Fin 10) : y V0 o b n j =
    (∑ k : Fin 64, (pt V0 b k (nbr V0 b n j.val) - pt V0 b k n) * V0 (Proc.devRef .tc main_arg1) (ix2 (n0 := 128) (n1 := 128) o ⟨k.val, by omega⟩))
    + ∑ k : Fin 64, pt V0 b k n * V0 (Proc.devRef .tc main_arg1) (ix2 (n0 := 128) (n1 := 128) o ⟨64 + k.val, by omega⟩) := by
  unfold y res_main_v31
  refine (joined _ _ _ o b n j).trans ?_
  refine congrArg₂ (· + ·) (Finset.sum_congr rfl fun k _ => ?_) (Finset.sum_congr rfl fun k _ => ?_)
  · exact congrArg (fun p : EReal => p * V0 (Proc.devRef .tc main_arg1) (ix2 (n0 := 128) (n1 := 128) o ⟨k.val, by omega⟩)) (less V0 hs b n j k)
  · exact congrArg (fun p : EReal => p * V0 (Proc.devRef .tc main_arg1) (ix2 (n0 := 128) (n1 := 128) o ⟨64 + k.val, by omega⟩)) (centre V0 b n j k)

/-- The number of edges. -/
abbrev N : EReal := Ideal.ofBits .f32 0x47A00000#32

theorem N_eq : N = ((81920 : ℝ) : EReal) := by
  simp [N, Ideal.ofBits, Ideal.ieee, -EReal.coe_mul]; norm_num

theorem count : res_main_call2_v8 V0 ix0 = N := by
  unfold res_main_call2_v8
  clean_types
  pointwise
  refine (congrArg (N - ·) (?_ : FloatOps.sitofp (F := Ideal) .f32 0#32 = (0 : EReal))).trans ?_
  · show (((0#32).toInt : ℝ) : EReal) = 0
    simp
  · rw [N_eq, sub_zero]

/-- An edge less the mean. -/
theorem dev (o : Fin 128) (b : Fin 8) (n : Fin 1024) (j : Fin 10) :
    res_main_call2_v5 V0 (ix4 (n0 := 8) (n1 := 128) (n2 := 1024) (n3 := 10) b o n j) = y V0 o b n j - Knn.mean (y V0 o) N := by
  unfold res_main_call2_v5
  exact Knn.dev_at (K := 10) bcast_S1x128x1x1_S8x128x1024x10_0_1_2_3 bcast_S128_S1x128x1x1_1 bcast_S_S1x128x1x1
    reducesTo_S8x128x1024x10_S128_d0_2_3 h_S_ (res_main_v31 V0) 0x47A00000#32 b o n j

/-- A normalised edge. -/
theorem normed (o : Fin 128) (b : Fin 8) (n : Fin 1024) (j : Fin 10) :
    res_main_v49 V0 (ix4 (n0 := 8) (n1 := 128) (n2 := 1024) (n3 := 10) b o n j)
      = Ideal.div (y V0 o b n j - Knn.mean (y V0 o) N) (Ideal.sqrt (Knn.var (y V0 o) N + Knn.eps))
        * V0 (Proc.devRef .tc main_arg4) (ix1 (n0 := 128) o) + V0 (Proc.devRef .tc main_arg7) (ix1 (n0 := 128) o) := by
  have h0 : (0 : EReal) < N := by rw [N_eq]; exact_mod_cast (by norm_num : (0 : ℝ) < 81920)
  unfold res_main_v49
  exact Knn.norm_at (K := 10) bcast_S1x128x1x1_S8x128x1024x10_0_1_2_3 bcast_S128_S1x128x1x1_1 bcast_S_S1x128x1x1
    reducesTo_S8x128x1024x10_S128_d0_2_3 h_S_ (res_main_v31 V0) (res_main_call2_v5 V0) (V0 (Proc.devRef .tc main_arg4)) (V0 (Proc.devRef .tc main_arg7)) (res_main_call2_v8 V0)
    0x47A00000#32 b o n j (dev V0 o) (count V0) h0

/-- The result: the largest activation over the neighbours. -/
theorem out (b : Fin 8) (o : Fin 128) (n : Fin 1024) :
    Host.reduce FloatOps.maximumf (select (cmpf .ogt (res_main_v49 V0) (broadcastInDim S8x128x1024x10 ![] bcast_S_S8x128x1024x10 (constant S_ .f32 0x00000000#32))) (res_main_v49 V0) (mulf (broadcastInDim S8x128x1024x10 ![] bcast_S_S8x128x1024x10 (constant S_ .f32 0x3E4CCCCD#32)) (res_main_v49 V0))) (constant S_ .f32 0xFF800000#32) reducesTo_S8x128x1024x10_S8x128x1024_d3 h_S_
        (ix3 (n0 := 8) (n1 := 128) (n2 := 1024) b o n)
      = Knn.refOut (y V0 o) N (V0 (Proc.devRef .tc main_arg4) (ix1 (n0 := 128) o)) (V0 (Proc.devRef .tc main_arg7) (ix1 (n0 := 128) o)) b n := by
  clean_types
  pointwise
  rw [Knn.bot_bits]
  exact congrArg (fun f => Finset.fold max (⊥ : EReal) f Finset.univ)
    (funext fun j => congrArg (Knn.leaky Knn.slope) (normed V0 o b n j))

end Cert.ReferenceIdeal.Reading.K10

end
-- ==== Proof.Ref20.lean ====
module

public import proofs.«01_k».proof.Proof.RefScore
public import proofs.«01_k».proof.Proof.RefNorm

/-! The reference's results with 20 neighbours. -/

@[expose] public section

set_option maxRecDepth 16384
set_option maxHeartbeats 4000000

noncomputable section

namespace Cert.ReferenceIdeal.Reading.K20

open Idealize.ShloMosaic Idealize.ShloMosaic.TcCoe Idealize.ShloMosaic.Tactic
open Cert.ReferenceIdeal Cert.ReferenceIdeal.Gen Cert.ReferenceIdeal.Value

variable (V0 : Valuation τ sig (Elt Ideal)) (hs : ∀ b n m, ⊥ < sc V0 b n m)

/-- An edge's row number. -/
abbrev edge (b : Fin 8) (n : Fin 1024) (j : Fin 20) : Fin 163840 := ⟨b.val * 20480 + n.val * 20 + j.val, by omega⟩

include hs in
/-- The row numbers of the neighbours. -/
theorem flat (b : Fin 8) (n : Fin 1024) (j : Fin 20) :
    res_main_v78 V0 (ix1 (n0 := 163840) (edge b n j)) = BitVec.ofNat 32 (b.val * 1024 + (nbr V0 b n j.val).val) := by
  have e1 : (b.val * 20480 + n.val * 20 + j.val) / 20480 = b.val := by omega
  have e2 : (b.val * 20480 + n.val * 20 + j.val) / 20 % 1024 = n.val := by omega
  have e3 : (b.val * 20480 + n.val * 20 + j.val) % 20 = j.val := by omega
  unfold res_main_v78
  clean_types
  pointwise
  simp only [e1, e2, e3, Fin.eta]
  exact (congrArg (fun w => IntOp.addi (IntOp.muli (BitVec.ofNat 32 b.val) 1024#32) (IntOp.minsi 1023#32 (IntOp.maxsi 0#32 w)))
    (Knn.topK_pick (res_main_v12 V0) sliceFits_S8x1024x1024_S8x1024x20 b n j (hs b n) (by omega))).trans
    (Knn.flat_word b.isLt (nbr V0 b n j.val).isLt)

include hs in
/-- The row numbers as the gather takes them. -/
theorem start (b : Fin 8) (n : Fin 1024) (j : Fin 20) : res_main_call5_v5 V0 (ix2 (n0 := 163840) (n1 := 1) (edge b n j) 0)
    = BitVec.ofNat 32 (b.val * 1024 + (nbr V0 b n j.val).val) := by
  unfold res_main_call5_v5
  clean_types
  pointwise
  rw [flat V0 hs]
  exact Knn.start_word (by have := (nbr V0 b n j.val).isLt; omega)

/-- The centre of an edge. -/
theorem centre (b : Fin 8) (n : Fin 1024) (j : Fin 20) (k : Fin 64) :
    res_main_v82 V0 (ix4 (n0 := 8) (n1 := 1024) (n2 := 20) (n3 := 64) b n j k) = pt V0 b k n := by
  unfold res_main_v82
  clean_types
  pointwise
  exact rows V0 b n k

include hs in
/-- The gathered row of an edge. -/
theorem picked (b : Fin 8) (n : Fin 1024) (j : Fin 20) (k : Fin 64) :
    Host.gather gather_S8192x64_S163840x1_S163840x64_1_0_n_n_0_1_164
      (shapeCast S8192x64 (res_main_v70 V0) shapeCasts_S8x1024x64_S8192x64) (res_main_call5_v5 V0)
      (ix2 (n0 := 163840) (n1 := 64) (edge b n j) k) = pt V0 b k (nbr V0 b n j.val) := by
  have h := (nbr V0 b n j.val).isLt
  refine (Routing.gather_row (nb := 8192) (B := 64) (n := 163840) gather_S8192x64_S163840x1_S163840x64_1_0_n_n_0_1_164
    rfl rfl rfl rfl rfl _ (res_main_call5_v5 V0) (edge b n j) k ⟨b.val * 1024 + (nbr V0 b n j.val).val, by omega⟩ (start V0 hs b n j) (by norm_num)).trans ?_
  exact (flat_rows (res_main_v70 V0) b (nbr V0 b n j.val) k).trans (rows V0 b (nbr V0 b n j.val) k)

include hs in
/-- The gathered row less the centre. The row number is within the rows. -/
theorem edge_diff (b : Fin 8) (n : Fin 1024) (j : Fin 20) (k : Fin 64) :
    (Scalar.select (Finset.fold IntOp.andi (1#1) (fun x : Fin 1 => IntOp.andi
          (IntOp.cmpi .sge (res_main_call5_v5 V0 (ix2 (n0 := 163840) (n1 := 1) (edge b n j) x)) 0#32)
          (IntOp.cmpi .sle (res_main_call5_v5 V0 (ix2 (n0 := 163840) (n1 := 1) (edge b n j) x)) 8191#32)) Finset.univ)
        (Host.gather gather_S8192x64_S163840x1_S163840x64_1_0_n_n_0_1_164
          (shapeCast S8192x64 (res_main_v70 V0) shapeCasts_S8x1024x64_S8192x64) (res_main_call5_v5 V0)
          (ix2 (n0 := 163840) (n1 := 64) (edge b n j) k))
        (Ideal.ofBits .f32 0x7FC00000#32) : EReal) - res_main_v82 V0 (ix4 (n0 := 8) (n1 := 1024) (n2 := 20) (n3 := 64) b n j k)
      = pt V0 b k (nbr V0 b n j.val) - pt V0 b k n := by
  have hq := (nbr V0 b n j.val).isLt
  have e := Knn.in_rows (q := b.val * 1024 + (nbr V0 b n j.val).val) (by omega)
    (fun x : Fin 1 => res_main_call5_v5 V0 (ix2 (n0 := 163840) (n1 := 1) (edge b n j) x)) (start V0 hs b n j)
  refine congrArg₂ (fun p q : EReal => p - q) ?_ (centre V0 b n j k)
  refine (congrArg (fun c => Scalar.select c _ (Ideal.ofBits .f32 0x7FC00000#32)) e).trans ?_
  exact picked V0 hs b n j k

/-- An edge's value for one output channel. -/
abbrev y (o : Fin 128) (b : Fin 8) (n : Fin 1024) (j : Fin 20) : EReal :=
  res_main_v87 V0 (ix4 (n0 := 8) (n1 := 128) (n2 := 1024) (n3 := 20) b o n j)

/-- A row of the list of rows, laid out by cloud, point and neighbour. -/
theorem unflat (g : FVec Ideal S163840x64 .f32) (b : Fin 8) (n : Fin 1024) (j : Fin 20) (k : Fin 64) :
    (shapeCast S8x1024x20x64 g shapeCasts_S163840x64_S8x1024x20x64) (ix4 (n0 := 8) (n1 := 1024) (n2 := 20) (n3 := 64) b n j k)
      = g (ix2 (n0 := 163840) (n1 := 64) (edge b n j) k) := by
  pointwise

/-- A choice of rows by one word to a row. -/
theorem choose (q : IVec S163840x1 1) (g h : FVec Ideal S163840x64 .f32) (e : Fin 163840) (k : Fin 64) :
    select (broadcastInDim S163840x64 ![0] bcast_S163840_S163840x64_0 (Host.reduce IntOp.andi q (constantI S_ 1 1#1) reducesTo_S163840x1_S163840_d1 h_S_)) g h
        (ix2 (n0 := 163840) (n1 := 64) e k)
      = Scalar.select (Finset.fold IntOp.andi (1#1) (fun x : Fin 1 => q (ix2 (n0 := 163840) (n1 := 1) e x)) Finset.univ)
          (g (ix2 (n0 := 163840) (n1 := 64) e k)) (h (ix2 (n0 := 163840) (n1 := 64) e k)) := by
  pointwise

/-- The range check at a row number. -/
theorem check (q : IVec S163840x1 32) (e : Fin 163840) (x : Fin 1) :
    andi (cmpi .sge q (broadcastInDim S163840x1 ![] bcast_S_S163840x1 (constantI S_ 32 0#32))) (cmpi .sle q (broadcastInDim S163840x1 ![0, 1] bcast_S1x1_S163840x1_0_1 (broadcastInDim S1x1 ![1] bcast_S1_S1x1_1 (constantI S1 32 8191#32))))
        (ix2 (n0 := 163840) (n1 := 1) e x)
      = IntOp.andi (IntOp.cmpi .sge (q (ix2 (n0 := 163840) (n1 := 1) e x)) 0#32) (IntOp.cmpi .sle (q (ix2 (n0 := 163840) (n1 := 1) e x)) 8191#32) := rfl

/-- A difference read at an index. -/
theorem minus {S : Shape} (x c : FVec Ideal S .f32) (i : S.Idx) : subf x c i = (x i : EReal) - c i := rfl

/-- The rows taken where the row number is in range, less the centres. -/
theorem taken (q : IVec S163840x1 32) (g z : FVec Ideal S163840x64 .f32) (c : FVec Ideal S8x1024x20x64 .f32) (b : Fin 8) (n : Fin 1024) (j : Fin 20) (k : Fin 64) :
    (subf (shapeCast S8x1024x20x64 (select (broadcastInDim S163840x64 ![0] bcast_S163840_S163840x64_0 (Host.reduce IntOp.andi (andi (cmpi .sge q (broadcastInDim S163840x1 ![] bcast_S_S163840x1 (constantI S_ 32 0#32))) (cmpi .sle q (broadcastInDim S163840x1 ![0, 1] bcast_S1x1_S163840x1_0_1 (broadcastInDim S1x1 ![1] bcast_S1_S1x1_1 (constantI S1 32 8191#32))))) (constantI S_ 1 1#1) reducesTo_S163840x1_S163840_d1 h_S_)) g z) shapeCasts_S163840x64_S8x1024x20x64) c)
        (ix4 (n0 := 8) (n1 := 1024) (n2 := 20) (n3 := 64) b n j k)
      = (Scalar.select (Finset.fold IntOp.andi (1#1) (fun x : Fin 1 => IntOp.andi
          (IntOp.cmpi .sge (q (ix2 (n0 := 163840) (n1 := 1) (edge b n j) x)) 0#32)
          (IntOp.cmpi .sle (q (ix2 (n0 := 163840) (n1 := 1) (edge b n j) x)) 8191#32)) Finset.univ)
        (g (ix2 (n0 := 163840) (n1 := 64) (edge b n j) k))
        (z (ix2 (n0 := 163840) (n1 := 64) (edge b n j) k)) : EReal) - c (ix4 (n0 := 8) (n1 := 1024) (n2 := 20) (n3 := 64) b n j k) := by
  refine (minus _ c _).trans (congrArg (fun p : EReal => p - c (ix4 (n0 := 8) (n1 := 1024) (n2 := 20) (n3 := 64) b n j k)) ?_)
  refine (unflat _ b n j k).trans ((choose _ _ _ (edge b n j) k).trans ?_)
  exact congrArg (fun f => Scalar.select (Finset.fold IntOp.andi (1#1) f Finset.univ) _ _) (funext fun x => check q (edge b n j) x)

include hs in
/-- The gathered rows less the centres, as the reference lays them out. -/
theorem less (b : Fin 8) (n : Fin 1024) (j : Fin 20) (k : Fin 64) :
    (subf (shapeCast S8x1024x20x64 (select (broadcastInDim S163840x64 ![0] bcast_S163840_S163840x64_0 (Host.reduce IntOp.andi (andi (cmpi .sge (res_main_call5_v5 V0) (broadcastInDim S163840x1 ![] bcast_S_S163840x1 (constantI S_ 32 0#32))) (cmpi .sle (res_main_call5_v5 V0) (broadcastInDim S163840x1 ![0, 1] bcast_S1x1_S163840x1_0_1 (broadcastInDim S1x1 ![1] bcast_S1_S1x1_1 (constantI S1 32 8191#32))))) (constantI S_ 1 1#1) reducesTo_S163840x1_S163840_d1 h_S_)) (Host.gather gather_S8192x64_S163840x1_S163840x64_1_0_n_n_0_1_164 (shapeCast _ (res_main_v70 V0) shapeCasts_S8x1024x64_S8192x64) (res_main_call5_v5 V0)) (broadcastInDim S163840x64 ![] bcast_S_S163840x64 (constant S_ .f32 0x7FC00000#32))) shapeCasts_S163840x64_S8x1024x20x64) (res_main_v82 V0) : FVec Ideal S8x1024x20x64 .f32)
        (ix4 (n0 := 8) (n1 := 1024) (n2 := 20) (n3 := 64) b n j k) = pt V0 b k (nbr V0 b n j.val) - pt V0 b k n := by
  exact (taken (res_main_call5_v5 V0) (Host.gather gather_S8192x64_S163840x1_S163840x64_1_0_n_n_0_1_164 (shapeCast S8192x64 (res_main_v70 V0) shapeCasts_S8x1024x64_S8192x64) (res_main_call5_v5 V0)) _ (res_main_v82 V0) b n j k).trans (edge_diff V0 hs b n j k)

/-- Products of the joined halves with the weights. -/
theorem joined (a c : FVec Ideal S8x1024x20x64 .f32) (W : FVec Ideal S128x128 .f32) (o : Fin 128) (b : Fin 8) (n : Fin 1024) (j : Fin 20) :
    transpose S8x128x1024x20 [0, 3, 1, 2] (Host.dotGeneral dot_S8x128x1024x20_S128x128_S8x1024x20x128_1_1_023_0_n_n none (transpose S8x128x1024x20 [0, 3, 1, 2] (concatenate S8x1024x20x128 3 [⟨S8x1024x20x64, a⟩, ⟨S8x1024x20x64, c⟩] concatenates_S8x1024x20x64_S8x1024x20x64_S8x1024x20x128_d3) transposes_S8x1024x20x128_S8x128x1024x20_0_3_1_2) W) transposes_S8x1024x20x128_S8x128x1024x20_0_3_1_2
        (ix4 (n0 := 8) (n1 := 128) (n2 := 1024) (n3 := 20) b o n j)
      = (∑ k : Fin 64, a (ix4 (n0 := 8) (n1 := 1024) (n2 := 20) (n3 := 64) b n j k) * W (ix2 (n0 := 128) (n1 := 128) o ⟨k.val, by omega⟩))
        + ∑ k : Fin 64, c (ix4 (n0 := 8) (n1 := 1024) (n2 := 20) (n3 := 64) b n j k) * W (ix2 (n0 := 128) (n1 := 128) o ⟨64 + k.val, by omega⟩) := by
  pointwise

include hs in
theorem y_eq (o : Fin 128) (b : Fin 8) (n : Fin 1024) (j : Fin 20) : y V0 o b n j =
    (∑ k : Fin 64, (pt V0 b k (nbr V0 b n j.val) - pt V0 b k n) * V0 (Proc.devRef .tc main_arg2) (ix2 (n0 := 128) (n1 := 128) o ⟨k.val, by omega⟩))
    + ∑ k : Fin 64, pt V0 b k n * V0 (Proc.devRef .tc main_arg2) (ix2 (n0 := 128) (n1 := 128) o ⟨64 + k.val, by omega⟩) := by
  unfold y res_main_v87
  refine (joined _ _ _ o b n j).trans ?_
  refine congrArg₂ (· + ·) (Finset.sum_congr rfl fun k _ => ?_) (Finset.sum_congr rfl fun k _ => ?_)
  · exact congrArg (fun p : EReal => p * V0 (Proc.devRef .tc main_arg2) (ix2 (n0 := 128) (n1 := 128) o ⟨k.val, by omega⟩)) (less V0 hs b n j k)
  · exact congrArg (fun p : EReal => p * V0 (Proc.devRef .tc main_arg2) (ix2 (n0 := 128) (n1 := 128) o ⟨64 + k.val, by omega⟩)) (centre V0 b n j k)

/-- The number of edges. -/
abbrev N : EReal := Ideal.ofBits .f32 0x48200000#32

theorem N_eq : N = ((163840 : ℝ) : EReal) := by
  simp [N, Ideal.ofBits, Ideal.ieee, -EReal.coe_mul]; norm_num

theorem count : res_main_call6_v8 V0 ix0 = N := by
  unfold res_main_call6_v8
  clean_types
  pointwise
  refine (congrArg (N - ·) (?_ : FloatOps.sitofp (F := Ideal) .f32 0#32 = (0 : EReal))).trans ?_
  · show (((0#32).toInt : ℝ) : EReal) = 0
    simp
  · rw [N_eq, sub_zero]

/-- An edge less the mean. -/
theorem dev (o : Fin 128) (b : Fin 8) (n : Fin 1024) (j : Fin 20) :
    res_main_call6_v5 V0 (ix4 (n0 := 8) (n1 := 128) (n2 := 1024) (n3 := 20) b o n j) = y V0 o b n j - Knn.mean (y V0 o) N := by
  unfold res_main_call6_v5
  exact Knn.dev_at (K := 20) bcast_S1x128x1x1_S8x128x1024x20_0_1_2_3 bcast_S128_S1x128x1x1_1 bcast_S_S1x128x1x1
    reducesTo_S8x128x1024x20_S128_d0_2_3 h_S_ (res_main_v87 V0) 0x48200000#32 b o n j

/-- A normalised edge. -/
theorem normed (o : Fin 128) (b : Fin 8) (n : Fin 1024) (j : Fin 20) :
    res_main_v105 V0 (ix4 (n0 := 8) (n1 := 128) (n2 := 1024) (n3 := 20) b o n j)
      = Ideal.div (y V0 o b n j - Knn.mean (y V0 o) N) (Ideal.sqrt (Knn.var (y V0 o) N + Knn.eps))
        * V0 (Proc.devRef .tc main_arg5) (ix1 (n0 := 128) o) + V0 (Proc.devRef .tc main_arg8) (ix1 (n0 := 128) o) := by
  have h0 : (0 : EReal) < N := by rw [N_eq]; exact_mod_cast (by norm_num : (0 : ℝ) < 163840)
  unfold res_main_v105
  exact Knn.norm_at (K := 20) bcast_S1x128x1x1_S8x128x1024x20_0_1_2_3 bcast_S128_S1x128x1x1_1 bcast_S_S1x128x1x1
    reducesTo_S8x128x1024x20_S128_d0_2_3 h_S_ (res_main_v87 V0) (res_main_call6_v5 V0) (V0 (Proc.devRef .tc main_arg5)) (V0 (Proc.devRef .tc main_arg8)) (res_main_call6_v8 V0)
    0x48200000#32 b o n j (dev V0 o) (count V0) h0

/-- The result: the largest activation over the neighbours. -/
theorem out (b : Fin 8) (o : Fin 128) (n : Fin 1024) :
    Host.reduce FloatOps.maximumf (select (cmpf .ogt (res_main_v105 V0) (broadcastInDim S8x128x1024x20 ![] bcast_S_S8x128x1024x20 (constant S_ .f32 0x00000000#32))) (res_main_v105 V0) (mulf (broadcastInDim S8x128x1024x20 ![] bcast_S_S8x128x1024x20 (constant S_ .f32 0x3E4CCCCD#32)) (res_main_v105 V0))) (constant S_ .f32 0xFF800000#32) reducesTo_S8x128x1024x20_S8x128x1024_d3 h_S_
        (ix3 (n0 := 8) (n1 := 128) (n2 := 1024) b o n)
      = Knn.refOut (y V0 o) N (V0 (Proc.devRef .tc main_arg5) (ix1 (n0 := 128) o)) (V0 (Proc.devRef .tc main_arg8) (ix1 (n0 := 128) o)) b n := by
  clean_types
  pointwise
  rw [Knn.bot_bits]
  exact congrArg (fun f => Finset.fold max (⊥ : EReal) f Finset.univ)
    (funext fun j => congrArg (Knn.leaky Knn.slope) (normed V0 o b n j))

end Cert.ReferenceIdeal.Reading.K20

end
-- ==== Proof.Ref40.lean ====
module

public import proofs.«01_k».proof.Proof.RefScore
public import proofs.«01_k».proof.Proof.RefNorm

/-! The reference's results with 40 neighbours. -/

@[expose] public section

set_option maxRecDepth 16384
set_option maxHeartbeats 4000000

noncomputable section

namespace Cert.ReferenceIdeal.Reading.K40

open Idealize.ShloMosaic Idealize.ShloMosaic.TcCoe Idealize.ShloMosaic.Tactic
open Cert.ReferenceIdeal Cert.ReferenceIdeal.Gen Cert.ReferenceIdeal.Value

variable (V0 : Valuation τ sig (Elt Ideal)) (hs : ∀ b n m, ⊥ < sc V0 b n m)

/-- An edge's row number. -/
abbrev edge (b : Fin 8) (n : Fin 1024) (j : Fin 40) : Fin 327680 := ⟨b.val * 40960 + n.val * 40 + j.val, by omega⟩

include hs in
/-- The row numbers of the neighbours. -/
theorem flat (b : Fin 8) (n : Fin 1024) (j : Fin 40) :
    res_main_v134 V0 (ix1 (n0 := 327680) (edge b n j)) = BitVec.ofNat 32 (b.val * 1024 + (nbr V0 b n j.val).val) := by
  have e1 : (b.val * 40960 + n.val * 40 + j.val) / 40960 = b.val := by omega
  have e2 : (b.val * 40960 + n.val * 40 + j.val) / 40 % 1024 = n.val := by omega
  have e3 : (b.val * 40960 + n.val * 40 + j.val) % 40 = j.val := by omega
  unfold res_main_v134
  clean_types
  pointwise
  simp only [e1, e2, e3, Fin.eta]
  exact (congrArg (fun w => IntOp.addi (IntOp.muli (BitVec.ofNat 32 b.val) 1024#32) (IntOp.minsi 1023#32 (IntOp.maxsi 0#32 w)))
    (Knn.topK_pick (res_main_v12 V0) sliceFits_S8x1024x1024_S8x1024x40 b n j (hs b n) (by omega))).trans
    (Knn.flat_word b.isLt (nbr V0 b n j.val).isLt)

include hs in
/-- The row numbers as the gather takes them. -/
theorem start (b : Fin 8) (n : Fin 1024) (j : Fin 40) : res_main_call9_v5 V0 (ix2 (n0 := 327680) (n1 := 1) (edge b n j) 0)
    = BitVec.ofNat 32 (b.val * 1024 + (nbr V0 b n j.val).val) := by
  unfold res_main_call9_v5
  clean_types
  pointwise
  rw [flat V0 hs]
  exact Knn.start_word (by have := (nbr V0 b n j.val).isLt; omega)

/-- The centre of an edge. -/
theorem centre (b : Fin 8) (n : Fin 1024) (j : Fin 40) (k : Fin 64) :
    res_main_v138 V0 (ix4 (n0 := 8) (n1 := 1024) (n2 := 40) (n3 := 64) b n j k) = pt V0 b k n := by
  unfold res_main_v138
  clean_types
  pointwise
  exact rows V0 b n k

include hs in
/-- The gathered row of an edge. -/
theorem picked (b : Fin 8) (n : Fin 1024) (j : Fin 40) (k : Fin 64) :
    Host.gather gather_S8192x64_S327680x1_S327680x64_1_0_n_n_0_1_164
      (shapeCast S8192x64 (res_main_v126 V0) shapeCasts_S8x1024x64_S8192x64) (res_main_call9_v5 V0)
      (ix2 (n0 := 327680) (n1 := 64) (edge b n j) k) = pt V0 b k (nbr V0 b n j.val) := by
  have h := (nbr V0 b n j.val).isLt
  refine (Routing.gather_row (nb := 8192) (B := 64) (n := 327680) gather_S8192x64_S327680x1_S327680x64_1_0_n_n_0_1_164
    rfl rfl rfl rfl rfl _ (res_main_call9_v5 V0) (edge b n j) k ⟨b.val * 1024 + (nbr V0 b n j.val).val, by omega⟩ (start V0 hs b n j) (by norm_num)).trans ?_
  exact (flat_rows (res_main_v126 V0) b (nbr V0 b n j.val) k).trans (rows V0 b (nbr V0 b n j.val) k)

include hs in
/-- The gathered row less the centre. The row number is within the rows. -/
theorem edge_diff (b : Fin 8) (n : Fin 1024) (j : Fin 40) (k : Fin 64) :
    (Scalar.select (Finset.fold IntOp.andi (1#1) (fun x : Fin 1 => IntOp.andi
          (IntOp.cmpi .sge (res_main_call9_v5 V0 (ix2 (n0 := 327680) (n1 := 1) (edge b n j) x)) 0#32)
          (IntOp.cmpi .sle (res_main_call9_v5 V0 (ix2 (n0 := 327680) (n1 := 1) (edge b n j) x)) 8191#32)) Finset.univ)
        (Host.gather gather_S8192x64_S327680x1_S327680x64_1_0_n_n_0_1_164
          (shapeCast S8192x64 (res_main_v126 V0) shapeCasts_S8x1024x64_S8192x64) (res_main_call9_v5 V0)
          (ix2 (n0 := 327680) (n1 := 64) (edge b n j) k))
        (Ideal.ofBits .f32 0x7FC00000#32) : EReal) - res_main_v138 V0 (ix4 (n0 := 8) (n1 := 1024) (n2 := 40) (n3 := 64) b n j k)
      = pt V0 b k (nbr V0 b n j.val) - pt V0 b k n := by
  have hq := (nbr V0 b n j.val).isLt
  have e := Knn.in_rows (q := b.val * 1024 + (nbr V0 b n j.val).val) (by omega)
    (fun x : Fin 1 => res_main_call9_v5 V0 (ix2 (n0 := 327680) (n1 := 1) (edge b n j) x)) (start V0 hs b n j)
  refine congrArg₂ (fun p q : EReal => p - q) ?_ (centre V0 b n j k)
  refine (congrArg (fun c => Scalar.select c _ (Ideal.ofBits .f32 0x7FC00000#32)) e).trans ?_
  exact picked V0 hs b n j k

/-- An edge's value for one output channel. -/
abbrev y (o : Fin 128) (b : Fin 8) (n : Fin 1024) (j : Fin 40) : EReal :=
  res_main_v143 V0 (ix4 (n0 := 8) (n1 := 128) (n2 := 1024) (n3 := 40) b o n j)

/-- A row of the list of rows, laid out by cloud, point and neighbour. -/
theorem unflat (g : FVec Ideal S327680x64 .f32) (b : Fin 8) (n : Fin 1024) (j : Fin 40) (k : Fin 64) :
    (shapeCast S8x1024x40x64 g shapeCasts_S327680x64_S8x1024x40x64) (ix4 (n0 := 8) (n1 := 1024) (n2 := 40) (n3 := 64) b n j k)
      = g (ix2 (n0 := 327680) (n1 := 64) (edge b n j) k) := by
  pointwise

/-- A choice of rows by one word to a row. -/
theorem choose (q : IVec S327680x1 1) (g h : FVec Ideal S327680x64 .f32) (e : Fin 327680) (k : Fin 64) :
    select (broadcastInDim S327680x64 ![0] bcast_S327680_S327680x64_0 (Host.reduce IntOp.andi q (constantI S_ 1 1#1) reducesTo_S327680x1_S327680_d1 h_S_)) g h
        (ix2 (n0 := 327680) (n1 := 64) e k)
      = Scalar.select (Finset.fold IntOp.andi (1#1) (fun x : Fin 1 => q (ix2 (n0 := 327680) (n1 := 1) e x)) Finset.univ)
          (g (ix2 (n0 := 327680) (n1 := 64) e k)) (h (ix2 (n0 := 327680) (n1 := 64) e k)) := by
  pointwise

/-- The range check at a row number. -/
theorem check (q : IVec S327680x1 32) (e : Fin 327680) (x : Fin 1) :
    andi (cmpi .sge q (broadcastInDim S327680x1 ![] bcast_S_S327680x1 (constantI S_ 32 0#32))) (cmpi .sle q (broadcastInDim S327680x1 ![0, 1] bcast_S1x1_S327680x1_0_1 (broadcastInDim S1x1 ![1] bcast_S1_S1x1_1 (constantI S1 32 8191#32))))
        (ix2 (n0 := 327680) (n1 := 1) e x)
      = IntOp.andi (IntOp.cmpi .sge (q (ix2 (n0 := 327680) (n1 := 1) e x)) 0#32) (IntOp.cmpi .sle (q (ix2 (n0 := 327680) (n1 := 1) e x)) 8191#32) := rfl

/-- A difference read at an index. -/
theorem minus {S : Shape} (x c : FVec Ideal S .f32) (i : S.Idx) : subf x c i = (x i : EReal) - c i := rfl

/-- The rows taken where the row number is in range, less the centres. -/
theorem taken (q : IVec S327680x1 32) (g z : FVec Ideal S327680x64 .f32) (c : FVec Ideal S8x1024x40x64 .f32) (b : Fin 8) (n : Fin 1024) (j : Fin 40) (k : Fin 64) :
    (subf (shapeCast S8x1024x40x64 (select (broadcastInDim S327680x64 ![0] bcast_S327680_S327680x64_0 (Host.reduce IntOp.andi (andi (cmpi .sge q (broadcastInDim S327680x1 ![] bcast_S_S327680x1 (constantI S_ 32 0#32))) (cmpi .sle q (broadcastInDim S327680x1 ![0, 1] bcast_S1x1_S327680x1_0_1 (broadcastInDim S1x1 ![1] bcast_S1_S1x1_1 (constantI S1 32 8191#32))))) (constantI S_ 1 1#1) reducesTo_S327680x1_S327680_d1 h_S_)) g z) shapeCasts_S327680x64_S8x1024x40x64) c)
        (ix4 (n0 := 8) (n1 := 1024) (n2 := 40) (n3 := 64) b n j k)
      = (Scalar.select (Finset.fold IntOp.andi (1#1) (fun x : Fin 1 => IntOp.andi
          (IntOp.cmpi .sge (q (ix2 (n0 := 327680) (n1 := 1) (edge b n j) x)) 0#32)
          (IntOp.cmpi .sle (q (ix2 (n0 := 327680) (n1 := 1) (edge b n j) x)) 8191#32)) Finset.univ)
        (g (ix2 (n0 := 327680) (n1 := 64) (edge b n j) k))
        (z (ix2 (n0 := 327680) (n1 := 64) (edge b n j) k)) : EReal) - c (ix4 (n0 := 8) (n1 := 1024) (n2 := 40) (n3 := 64) b n j k) := by
  refine (minus _ c _).trans (congrArg (fun p : EReal => p - c (ix4 (n0 := 8) (n1 := 1024) (n2 := 40) (n3 := 64) b n j k)) ?_)
  refine (unflat _ b n j k).trans ((choose _ _ _ (edge b n j) k).trans ?_)
  exact congrArg (fun f => Scalar.select (Finset.fold IntOp.andi (1#1) f Finset.univ) _ _) (funext fun x => check q (edge b n j) x)

include hs in
/-- The gathered rows less the centres, as the reference lays them out. -/
theorem less (b : Fin 8) (n : Fin 1024) (j : Fin 40) (k : Fin 64) :
    (subf (shapeCast S8x1024x40x64 (select (broadcastInDim S327680x64 ![0] bcast_S327680_S327680x64_0 (Host.reduce IntOp.andi (andi (cmpi .sge (res_main_call9_v5 V0) (broadcastInDim S327680x1 ![] bcast_S_S327680x1 (constantI S_ 32 0#32))) (cmpi .sle (res_main_call9_v5 V0) (broadcastInDim S327680x1 ![0, 1] bcast_S1x1_S327680x1_0_1 (broadcastInDim S1x1 ![1] bcast_S1_S1x1_1 (constantI S1 32 8191#32))))) (constantI S_ 1 1#1) reducesTo_S327680x1_S327680_d1 h_S_)) (Host.gather gather_S8192x64_S327680x1_S327680x64_1_0_n_n_0_1_164 (shapeCast _ (res_main_v126 V0) shapeCasts_S8x1024x64_S8192x64) (res_main_call9_v5 V0)) (broadcastInDim S327680x64 ![] bcast_S_S327680x64 (constant S_ .f32 0x7FC00000#32))) shapeCasts_S327680x64_S8x1024x40x64) (res_main_v138 V0) : FVec Ideal S8x1024x40x64 .f32)
        (ix4 (n0 := 8) (n1 := 1024) (n2 := 40) (n3 := 64) b n j k) = pt V0 b k (nbr V0 b n j.val) - pt V0 b k n := by
  exact (taken (res_main_call9_v5 V0) (Host.gather gather_S8192x64_S327680x1_S327680x64_1_0_n_n_0_1_164 (shapeCast S8192x64 (res_main_v126 V0) shapeCasts_S8x1024x64_S8192x64) (res_main_call9_v5 V0)) _ (res_main_v138 V0) b n j k).trans (edge_diff V0 hs b n j k)

/-- Products of the joined halves with the weights. -/
theorem joined (a c : FVec Ideal S8x1024x40x64 .f32) (W : FVec Ideal S128x128 .f32) (o : Fin 128) (b : Fin 8) (n : Fin 1024) (j : Fin 40) :
    transpose S8x128x1024x40 [0, 3, 1, 2] (Host.dotGeneral dot_S8x128x1024x40_S128x128_S8x1024x40x128_1_1_023_0_n_n none (transpose S8x128x1024x40 [0, 3, 1, 2] (concatenate S8x1024x40x128 3 [⟨S8x1024x40x64, a⟩, ⟨S8x1024x40x64, c⟩] concatenates_S8x1024x40x64_S8x1024x40x64_S8x1024x40x128_d3) transposes_S8x1024x40x128_S8x128x1024x40_0_3_1_2) W) transposes_S8x1024x40x128_S8x128x1024x40_0_3_1_2
        (ix4 (n0 := 8) (n1 := 128) (n2 := 1024) (n3 := 40) b o n j)
      = (∑ k : Fin 64, a (ix4 (n0 := 8) (n1 := 1024) (n2 := 40) (n3 := 64) b n j k) * W (ix2 (n0 := 128) (n1 := 128) o ⟨k.val, by omega⟩))
        + ∑ k : Fin 64, c (ix4 (n0 := 8) (n1 := 1024) (n2 := 40) (n3 := 64) b n j k) * W (ix2 (n0 := 128) (n1 := 128) o ⟨64 + k.val, by omega⟩) := by
  pointwise

include hs in
theorem y_eq (o : Fin 128) (b : Fin 8) (n : Fin 1024) (j : Fin 40) : y V0 o b n j =
    (∑ k : Fin 64, (pt V0 b k (nbr V0 b n j.val) - pt V0 b k n) * V0 (Proc.devRef .tc main_arg3) (ix2 (n0 := 128) (n1 := 128) o ⟨k.val, by omega⟩))
    + ∑ k : Fin 64, pt V0 b k n * V0 (Proc.devRef .tc main_arg3) (ix2 (n0 := 128) (n1 := 128) o ⟨64 + k.val, by omega⟩) := by
  unfold y res_main_v143
  refine (joined _ _ _ o b n j).trans ?_
  refine congrArg₂ (· + ·) (Finset.sum_congr rfl fun k _ => ?_) (Finset.sum_congr rfl fun k _ => ?_)
  · exact congrArg (fun p : EReal => p * V0 (Proc.devRef .tc main_arg3) (ix2 (n0 := 128) (n1 := 128) o ⟨k.val, by omega⟩)) (less V0 hs b n j k)
  · exact congrArg (fun p : EReal => p * V0 (Proc.devRef .tc main_arg3) (ix2 (n0 := 128) (n1 := 128) o ⟨64 + k.val, by omega⟩)) (centre V0 b n j k)

/-- The number of edges. -/
abbrev N : EReal := Ideal.ofBits .f32 0x48A00000#32

theorem N_eq : N = ((327680 : ℝ) : EReal) := by
  simp [N, Ideal.ofBits, Ideal.ieee, -EReal.coe_mul]; norm_num

theorem count : res_main_call10_v8 V0 ix0 = N := by
  unfold res_main_call10_v8
  clean_types
  pointwise
  refine (congrArg (N - ·) (?_ : FloatOps.sitofp (F := Ideal) .f32 0#32 = (0 : EReal))).trans ?_
  · show (((0#32).toInt : ℝ) : EReal) = 0
    simp
  · rw [N_eq, sub_zero]

/-- An edge less the mean. -/
theorem dev (o : Fin 128) (b : Fin 8) (n : Fin 1024) (j : Fin 40) :
    res_main_call10_v5 V0 (ix4 (n0 := 8) (n1 := 128) (n2 := 1024) (n3 := 40) b o n j) = y V0 o b n j - Knn.mean (y V0 o) N := by
  unfold res_main_call10_v5
  exact Knn.dev_at (K := 40) bcast_S1x128x1x1_S8x128x1024x40_0_1_2_3 bcast_S128_S1x128x1x1_1 bcast_S_S1x128x1x1
    reducesTo_S8x128x1024x40_S128_d0_2_3 h_S_ (res_main_v143 V0) 0x48A00000#32 b o n j

/-- A normalised edge. -/
theorem normed (o : Fin 128) (b : Fin 8) (n : Fin 1024) (j : Fin 40) :
    res_main_v161 V0 (ix4 (n0 := 8) (n1 := 128) (n2 := 1024) (n3 := 40) b o n j)
      = Ideal.div (y V0 o b n j - Knn.mean (y V0 o) N) (Ideal.sqrt (Knn.var (y V0 o) N + Knn.eps))
        * V0 (Proc.devRef .tc main_arg6) (ix1 (n0 := 128) o) + V0 (Proc.devRef .tc main_arg9) (ix1 (n0 := 128) o) := by
  have h0 : (0 : EReal) < N := by rw [N_eq]; exact_mod_cast (by norm_num : (0 : ℝ) < 327680)
  unfold res_main_v161
  exact Knn.norm_at (K := 40) bcast_S1x128x1x1_S8x128x1024x40_0_1_2_3 bcast_S128_S1x128x1x1_1 bcast_S_S1x128x1x1
    reducesTo_S8x128x1024x40_S128_d0_2_3 h_S_ (res_main_v143 V0) (res_main_call10_v5 V0) (V0 (Proc.devRef .tc main_arg6)) (V0 (Proc.devRef .tc main_arg9)) (res_main_call10_v8 V0)
    0x48A00000#32 b o n j (dev V0 o) (count V0) h0

/-- The result: the largest activation over the neighbours. -/
theorem out (b : Fin 8) (o : Fin 128) (n : Fin 1024) :
    Host.reduce FloatOps.maximumf (select (cmpf .ogt (res_main_v161 V0) (broadcastInDim S8x128x1024x40 ![] bcast_S_S8x128x1024x40 (constant S_ .f32 0x00000000#32))) (res_main_v161 V0) (mulf (broadcastInDim S8x128x1024x40 ![] bcast_S_S8x128x1024x40 (constant S_ .f32 0x3E4CCCCD#32)) (res_main_v161 V0))) (constant S_ .f32 0xFF800000#32) reducesTo_S8x128x1024x40_S8x128x1024_d3 h_S_
        (ix3 (n0 := 8) (n1 := 128) (n2 := 1024) b o n)
      = Knn.refOut (y V0 o) N (V0 (Proc.devRef .tc main_arg6) (ix1 (n0 := 128) o)) (V0 (Proc.devRef .tc main_arg9) (ix1 (n0 := 128) o)) b n := by
  clean_types
  pointwise
  rw [Knn.bot_bits]
  exact congrArg (fun f => Finset.fold max (⊥ : EReal) f Finset.univ)
    (funext fun j => congrArg (Knn.leaky Knn.slope) (normed V0 o b n j))

end Cert.ReferenceIdeal.Reading.K40

end
-- ==== Proof.RefEnd.lean ====
module

public import proofs.«01_k».proof.Proof.Ref10
public import proofs.«01_k».proof.Proof.Ref20
public import proofs.«01_k».proof.Proof.Ref40
public import proofs.«01_k».proof.Proof.Edge

/-! The reference's three results at finite points and weights, over the real numbers. -/

@[expose] public section

set_option maxRecDepth 16384
set_option maxHeartbeats 1000000

noncomputable section

open Idealize.ShloMosaic in
/-- Two arrays are equal when they agree at every cloud, channel and point. -/
theorem Cert.Knn.ext3 {f g : FVec Ideal ⟨3, ![8, 128, 1024]⟩ .f32}
    (h : ∀ b o n, f (ix3 (n0 := 8) (n1 := 128) (n2 := 1024) b o n) = g (ix3 (n0 := 8) (n1 := 128) (n2 := 1024) b o n)) : f = g :=
  funext fun i => by
    have e : i = ix3 (n0 := 8) (n1 := 128) (n2 := 1024) (i 0) (i 1) (i 2) := by
      funext a; match a with | ⟨0, _⟩ => rfl | ⟨1, _⟩ => rfl | ⟨2, _⟩ => rfl
    rw [e]; exact h _ _ _

namespace Cert.ReferenceIdeal.Reading

open Idealize.ShloMosaic Idealize.ShloMosaic.TcCoe Idealize.ShloMosaic.Tactic
open Cert.ReferenceIdeal Cert.ReferenceIdeal.Gen Cert.ReferenceIdeal.Value

variable (V0 : Valuation τ sig (Elt Ideal)) (X : Fin 8 → Fin 64 → Fin 1024 → ℝ) (hX : ∀ b k n, pt V0 b k n = (X b k n : EReal))

include hX in
theorem sc_real (b : Fin 8) (n q : Fin 1024) : sc V0 b n q = (Knn.rscore (fun k => X b k n) (fun k => X b k q) : EReal) :=
  (sc_eq V0 b n q).trans (Knn.dist_real (p := fun k => pt V0 b k n) (q := fun k => pt V0 b k q) (fun k => hX b k n) (fun k => hX b k q))

include hX in
theorem sc_finite (b : Fin 8) (n q : Fin 1024) : ⊥ < sc V0 b n q := by
  rw [sc_real V0 X hX]; exact EReal.bot_lt_coe _

include hX in
theorem nbr_real (b : Fin 8) (n : Fin 1024) (j : ℕ) : nbr V0 b n j = Knn.near_by X b n j :=
  congrArg (fun s => Knn.pick s j) (funext fun q => sc_real V0 X hX b n q)

/-- An edge over the reals. -/
abbrev redge (w : Fin 128 → ℝ) (b : Fin 8) (n : Fin 1024) (j : ℕ) : ℝ :=
  Knn.near w (fun k => X b k (Knn.near_by X b n j)) + Knn.base w (fun k => X b k n)

include hX in
/-- The reference's formula for an edge is the real edge. -/
theorem edge_real (W : Fin 128 → EReal) (w : Fin 128 → ℝ) (hW : ∀ k, W k = (w k : EReal)) (b : Fin 8) (n : Fin 1024) (j : ℕ) :
    (∑ k : Fin 64, (pt V0 b k (nbr V0 b n j) - pt V0 b k n) * W ⟨k.val, by omega⟩)
      + ∑ k : Fin 64, pt V0 b k n * W ⟨64 + k.val, by omega⟩ = (redge X w b n j : EReal) := by
  rw [nbr_real V0 X hX]
  exact Knn.edge_real (W := W) (p := fun k => pt V0 b k (Knn.near_by X b n j)) (q := fun k => pt V0 b k n) hW
    (fun k => hX b k _) (fun k => hX b k n)

/-- The reference's formula depends on the edges and their number only. -/
theorem refOut_congr {K : ℕ} {y y' : Fin 8 → Fin 1024 → Fin K → EReal} {N N' : EReal} (hy : ∀ b n j, y b n j = y' b n j) (hN : N = N')
    (γ β : EReal) (b : Fin 8) (n : Fin 1024) : Knn.refOut y N γ β b n = Knn.refOut y' N' γ β b n := by
  rw [show y = y' from funext fun b => funext fun n => funext fun j => hy b n j, hN]

section
variable (w : Fin 128 → Fin 128 → ℝ) (γ β : EReal) (o : Fin 128) (b : Fin 8) (n : Fin 1024)

include hX in
theorem end10 (hw : ∀ o k, V0 (Proc.devRef .tc main_arg1) (ix2 (n0 := 128) (n1 := 128) o k) = (w o k : EReal)) :
    Knn.refOut (K10.y V0 o) K10.N γ β b n
      = Knn.refOut (fun b n (j : Fin 10) => (redge X (w o) b n j.val : EReal)) ((((10 : ℕ) : ℝ) * 8192 : ℝ) : EReal) γ β b n :=
  refOut_congr (fun b n j => (K10.y_eq V0 (sc_finite V0 X hX) o b n j).trans
    (edge_real V0 X hX (fun k => V0 (Proc.devRef .tc main_arg1) (ix2 (n0 := 128) (n1 := 128) o k)) (w o) (hw o) b n j.val))
    (K10.N_eq.trans (congrArg _ (by norm_num))) γ β b n

include hX in
theorem end20 (hw : ∀ o k, V0 (Proc.devRef .tc main_arg2) (ix2 (n0 := 128) (n1 := 128) o k) = (w o k : EReal)) :
    Knn.refOut (K20.y V0 o) K20.N γ β b n
      = Knn.refOut (fun b n (j : Fin 20) => (redge X (w o) b n j.val : EReal)) ((((20 : ℕ) : ℝ) * 8192 : ℝ) : EReal) γ β b n :=
  refOut_congr (fun b n j => (K20.y_eq V0 (sc_finite V0 X hX) o b n j).trans
    (edge_real V0 X hX (fun k => V0 (Proc.devRef .tc main_arg2) (ix2 (n0 := 128) (n1 := 128) o k)) (w o) (hw o) b n j.val))
    (K20.N_eq.trans (congrArg _ (by norm_num))) γ β b n

include hX in
theorem end40 (hw : ∀ o k, V0 (Proc.devRef .tc main_arg3) (ix2 (n0 := 128) (n1 := 128) o k) = (w o k : EReal)) :
    Knn.refOut (K40.y V0 o) K40.N γ β b n
      = Knn.refOut (fun b n (j : Fin 40) => (redge X (w o) b n j.val : EReal)) ((((40 : ℕ) : ℝ) * 8192 : ℝ) : EReal) γ β b n :=
  refOut_congr (fun b n j => (K40.y_eq V0 (sc_finite V0 X hX) o b n j).trans
    (edge_real V0 X hX (fun k => V0 (Proc.devRef .tc main_arg3) (ix2 (n0 := 128) (n1 := 128) o k)) (w o) (hw o) b n j.val))
    (K40.N_eq.trans (congrArg _ (by norm_num))) γ β b n

end

section
variable (w : Fin 128 → Fin 128 → ℝ) (γ β : Fin 128 → EReal) (f : FVec Ideal S8x128x1024 .f32)

include hX in
/-- The result with 10 neighbours is any array that follows the real formula. -/
theorem array10 (hw : ∀ o k, V0 (Proc.devRef .tc main_arg1) (ix2 (n0 := 128) (n1 := 128) o k) = (w o k : EReal))
    (hγ : ∀ o, V0 (Proc.devRef .tc main_arg4) (ix1 (n0 := 128) o) = γ o) (hβ : ∀ o, V0 (Proc.devRef .tc main_arg7) (ix1 (n0 := 128) o) = β o)
    (hf : ∀ b o n, f (ix3 (n0 := 8) (n1 := 128) (n2 := 1024) b o n)
      = Knn.refOut (fun b n (j : Fin 10) => (redge X (w o) b n j.val : EReal)) ((((10 : ℕ) : ℝ) * 8192 : ℝ) : EReal) (γ o) (β o) b n) :
    Host.reduce FloatOps.maximumf (select (cmpf .ogt (res_main_v49 V0) (broadcastInDim S8x128x1024x10 ![] bcast_S_S8x128x1024x10 (constant S_ .f32 0x00000000#32))) (res_main_v49 V0) (mulf (broadcastInDim S8x128x1024x10 ![] bcast_S_S8x128x1024x10 (constant S_ .f32 0x3E4CCCCD#32)) (res_main_v49 V0))) (constant S_ .f32 0xFF800000#32) reducesTo_S8x128x1024x10_S8x128x1024_d3 h_S_ = f :=
  Knn.ext3 fun b o n => (K10.out V0 b o n).trans ((end10 V0 X hX w _ _ o b n hw).trans
    ((congrArg₂ (fun γ β => Knn.refOut (fun b n (j : Fin 10) => (redge X (w o) b n j.val : EReal)) ((((10 : ℕ) : ℝ) * 8192 : ℝ) : EReal) γ β b n)
      (hγ o) (hβ o)).trans (hf b o n).symm))

include hX in
/-- The result with 20 neighbours is any array that follows the real formula. -/
theorem array20 (hw : ∀ o k, V0 (Proc.devRef .tc main_arg2) (ix2 (n0 := 128) (n1 := 128) o k) = (w o k : EReal))
    (hγ : ∀ o, V0 (Proc.devRef .tc main_arg5) (ix1 (n0 := 128) o) = γ o) (hβ : ∀ o, V0 (Proc.devRef .tc main_arg8) (ix1 (n0 := 128) o) = β o)
    (hf : ∀ b o n, f (ix3 (n0 := 8) (n1 := 128) (n2 := 1024) b o n)
      = Knn.refOut (fun b n (j : Fin 20) => (redge X (w o) b n j.val : EReal)) ((((20 : ℕ) : ℝ) * 8192 : ℝ) : EReal) (γ o) (β o) b n) :
    Host.reduce FloatOps.maximumf (select (cmpf .ogt (res_main_v105 V0) (broadcastInDim S8x128x1024x20 ![] bcast_S_S8x128x1024x20 (constant S_ .f32 0x00000000#32))) (res_main_v105 V0) (mulf (broadcastInDim S8x128x1024x20 ![] bcast_S_S8x128x1024x20 (constant S_ .f32 0x3E4CCCCD#32)) (res_main_v105 V0))) (constant S_ .f32 0xFF800000#32) reducesTo_S8x128x1024x20_S8x128x1024_d3 h_S_ = f :=
  Knn.ext3 fun b o n => (K20.out V0 b o n).trans ((end20 V0 X hX w _ _ o b n hw).trans
    ((congrArg₂ (fun γ β => Knn.refOut (fun b n (j : Fin 20) => (redge X (w o) b n j.val : EReal)) ((((20 : ℕ) : ℝ) * 8192 : ℝ) : EReal) γ β b n)
      (hγ o) (hβ o)).trans (hf b o n).symm))

include hX in
/-- The result with 40 neighbours is any array that follows the real formula. -/
theorem array40 (hw : ∀ o k, V0 (Proc.devRef .tc main_arg3) (ix2 (n0 := 128) (n1 := 128) o k) = (w o k : EReal))
    (hγ : ∀ o, V0 (Proc.devRef .tc main_arg6) (ix1 (n0 := 128) o) = γ o) (hβ : ∀ o, V0 (Proc.devRef .tc main_arg9) (ix1 (n0 := 128) o) = β o)
    (hf : ∀ b o n, f (ix3 (n0 := 8) (n1 := 128) (n2 := 1024) b o n)
      = Knn.refOut (fun b n (j : Fin 40) => (redge X (w o) b n j.val : EReal)) ((((40 : ℕ) : ℝ) * 8192 : ℝ) : EReal) (γ o) (β o) b n) :
    Host.reduce FloatOps.maximumf (select (cmpf .ogt (res_main_v161 V0) (broadcastInDim S8x128x1024x40 ![] bcast_S_S8x128x1024x40 (constant S_ .f32 0x00000000#32))) (res_main_v161 V0) (mulf (broadcastInDim S8x128x1024x40 ![] bcast_S_S8x128x1024x40 (constant S_ .f32 0x3E4CCCCD#32)) (res_main_v161 V0))) (constant S_ .f32 0xFF800000#32) reducesTo_S8x128x1024x40_S8x128x1024_d3 h_S_ = f :=
  Knn.ext3 fun b o n => (K40.out V0 b o n).trans ((end40 V0 X hX w _ _ o b n hw).trans
    ((congrArg₂ (fun γ β => Knn.refOut (fun b n (j : Fin 40) => (redge X (w o) b n j.val : EReal)) ((((40 : ℕ) : ℝ) * 8192 : ℝ) : EReal) γ β b n)
      (hγ o) (hβ o)).trans (hf b o n).symm))

end

end Cert.ReferenceIdeal.Reading

end
-- ==== Proof.Tame.lean ====
module

public import proofs.«01_k».proof.Defs
public import Idealize.ShloMosaic.Lib.Pointwise

/-! What the precondition says of the arguments: points and weights are finite, factors are not negative. -/

@[expose] public section

noncomputable section

namespace Cert.Pre_tame.Meaning

open Idealize.ShloMosaic
open Cert.Pre_tame

theorem facts : Cert.Pre_tame.Facts where
  bcast_S_S8x64x1024 := by decide
  bcast_S_S128x128 := by decide
  bcast_S_S128 := by decide

theorem top_bits : Ideal.ofBits .f32 0x7F800000#32 = ⊤ := by
  simp [Ideal.ofBits, Ideal.ieee]

/-- A number whose absolute value is below infinity is real. -/
theorem finite {x : EReal} (h : Ideal.cmp .olt (max x (-x)) (Ideal.ofBits .f32 0x7F800000#32) = 1#1) : x = (x.toReal : EReal) := by
  rw [top_bits] at h
  have hl : max x (-x) < ⊤ := by
    by_contra hn
    simp [Ideal.cmp, hn] at h
  refine (EReal.coe_toReal (fun e => ?_) (fun e => ?_)).symm
  · subst e; simp at hl
  · subst e; simp at hl

/-- A number at least zero, as the comparison says it. -/
theorem nonneg {x : EReal} (h : Ideal.cmp .oge x (Ideal.ofBits .f32 0x00000000#32) = 1#1) : 0 ≤ x := by
  have e : Ideal.ofBits .f32 0x00000000#32 = 0 := by simp [Ideal.ofBits, Ideal.ieee]
  rw [e] at h
  by_contra hn
  simp [Ideal.cmp, hn] at h

variable [Cert.Pre_tame.Facts] (a0 : FVec Ideal S8x64x1024 .f32) (a1 a2 a3 : FVec Ideal S128x128 .f32)
  (a4 a5 a6 a7 a8 a9 : FVec Ideal S128 .f32)

/-- The points are finite where the first comparison is all ones. -/
theorem points (h : (fn (F := Ideal) a0 a1 a2 a3 a4 a5 a6 a7 a8 a9).1 = (fun _ => 1#1)) (i : S8x64x1024.Idx) :
    (a0 i : EReal) = ((a0 i : EReal).toReal : EReal) := finite (congrFun h i)

/-- So are the three weights. -/
theorem weights (h1 : (fn (F := Ideal) a0 a1 a2 a3 a4 a5 a6 a7 a8 a9).2.1 = (fun _ => 1#1))
    (h2 : (fn (F := Ideal) a0 a1 a2 a3 a4 a5 a6 a7 a8 a9).2.2.1 = (fun _ => 1#1))
    (h3 : (fn (F := Ideal) a0 a1 a2 a3 a4 a5 a6 a7 a8 a9).2.2.2.1 = (fun _ => 1#1)) (i : S128x128.Idx) :
    (a1 i : EReal) = ((a1 i : EReal).toReal : EReal) ∧ (a2 i : EReal) = ((a2 i : EReal).toReal : EReal)
      ∧ (a3 i : EReal) = ((a3 i : EReal).toReal : EReal) :=
  ⟨finite (congrFun h1 i), finite (congrFun h2 i), finite (congrFun h3 i)⟩

/-- The three factors are not negative. -/
theorem factors (h4 : (fn (F := Ideal) a0 a1 a2 a3 a4 a5 a6 a7 a8 a9).2.2.2.2.1 = (fun _ => 1#1))
    (h5 : (fn (F := Ideal) a0 a1 a2 a3 a4 a5 a6 a7 a8 a9).2.2.2.2.2.1 = (fun _ => 1#1))
    (h6 : (fn (F := Ideal) a0 a1 a2 a3 a4 a5 a6 a7 a8 a9).2.2.2.2.2.2 = (fun _ => 1#1)) (i : S128.Idx) :
    (0 : EReal) ≤ a4 i ∧ (0 : EReal) ≤ a5 i ∧ (0 : EReal) ≤ a6 i :=
  ⟨nonneg (congrFun h4 i), nonneg (congrFun h5 i), nonneg (congrFun h6 i)⟩

end Cert.Pre_tame.Meaning

end
-- ==== Proof.lean ====
/- The claims of the statement, assembled: the frames of the two printings of the kernel, the frame of the reference,
   that the idealised printing is the printed kernel, and that it computes what the reference computes. -/
module

public import proofs.«01_k».proof.Defs
public import proofs.«01_k».proof.Proof.BitsRun
public import proofs.«01_k».proof.Proof.Result
public import proofs.«01_k».proof.Proof.RefEnd
public import proofs.«01_k».proof.Proof.Tame
public import proofs.«01_k».proof.Proof.Gen.ReferenceIdeal
public import Idealize.ShloMosaic.Adequacy
public import Idealize.ShloMosaic.Init
public import Idealize.ShloMosaic.Lib.Claim

@[expose] public section

set_option maxRecDepth 16384
set_option maxHeartbeats 1000000

noncomputable section

namespace Cert.Proof

open Idealize.ShloMosaic Idealize.ShloMosaic.TcCoe Idealize.SL.Sem

/-- The reference returns, leaves its arguments as they were, and ends with every counter at zero. -/
theorem frame_reference : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run m g)

section
open Cert.KernelIdeal (main_arg0 main_arg1 main_arg2 main_arg3 main_arg4 main_arg5 main_arg6 main_arg7 main_arg8 main_arg9)
open Cert.KernelIdeal.Result (arg gam bet)
open Cert.KernelIdeal.HostRead (at3)

variable (m : (ℓ : Loc Cert.KernelIdeal.nD Cert.KernelIdeal.τ Cert.KernelIdeal.sig) → Buf (Elt Ideal) ℓ)
  (h : Cert.Pre_KernelIdeal_tame (hPre_tame := Cert.Pre_tame.Meaning.facts) m) (c : Dev Cert.KernelIdeal.nD)

/-- The points and the weights as real numbers. -/
def points (b : Fin 8) (k : Fin 64) (n : Fin 1024) : ℝ :=
  EReal.toReal ((arg m c main_arg0 : Vec Ideal Cert.KernelIdeal.S8x64x1024 .f32) (ix3 (n0 := 8) (n1 := 64) (n2 := 1024) b k n))
def weights (i : Fin 3) (o k : Fin 128) : ℝ :=
  EReal.toReal ((at3 (arg m c main_arg1) (arg m c main_arg2) (arg m c main_arg3) i : Vec Ideal Cert.KernelIdeal.S128x128 .f32)
    (ix2 (n0 := 128) (n1 := 128) o k))

include h in
theorem points_eq (b : Fin 8) (k : Fin 64) (n : Fin 1024) :
    (arg m c main_arg0 : Vec Ideal Cert.KernelIdeal.S8x64x1024 .f32) (ix3 (n0 := 8) (n1 := 64) (n2 := 1024) b k n)
      = (points m c b k n : EReal) :=
  haveI : Cert.Pre_tame.Facts := Cert.Pre_tame.Meaning.facts
  Cert.Pre_tame.Meaning.points (arg m c main_arg0) (arg m c main_arg1) (arg m c main_arg2) (arg m c main_arg3) (arg m c main_arg4)
    (arg m c main_arg5) (arg m c main_arg6) (arg m c main_arg7) (arg m c main_arg8) (arg m c main_arg9) (h c).1 _

include h in
theorem weights_eq (i : Fin 3) (o k : Fin 128) :
    (at3 (arg m c main_arg1) (arg m c main_arg2) (arg m c main_arg3) i : Vec Ideal Cert.KernelIdeal.S128x128 .f32)
      (ix2 (n0 := 128) (n1 := 128) o k) = (weights m c i o k : EReal) := by
  haveI : Cert.Pre_tame.Facts := Cert.Pre_tame.Meaning.facts
  have e := Cert.Pre_tame.Meaning.weights (arg m c main_arg0) (arg m c main_arg1) (arg m c main_arg2) (arg m c main_arg3)
    (arg m c main_arg4) (arg m c main_arg5) (arg m c main_arg6) (arg m c main_arg7) (arg m c main_arg8) (arg m c main_arg9)
    (h c).2.1 (h c).2.2.1 (h c).2.2.2.1 (ix2 (n0 := 128) (n1 := 128) o k)
  match i with
  | 0 => exact e.1
  | 1 => exact e.2.1
  | 2 => exact e.2.2

include h in
theorem factors_nonneg (i : Fin 3) (o : Fin 128) : 0 ≤ gam m c i o := by
  haveI : Cert.Pre_tame.Facts := Cert.Pre_tame.Meaning.facts
  have e := Cert.Pre_tame.Meaning.factors (arg m c main_arg0) (arg m c main_arg1) (arg m c main_arg2) (arg m c main_arg3)
    (arg m c main_arg4) (arg m c main_arg5) (arg m c main_arg6) (arg m c main_arg7) (arg m c main_arg8) (arg m c main_arg9)
    (h c).2.2.2.2.1 (h c).2.2.2.2.2.1 (h c).2.2.2.2.2.2 (ix1 (n0 := 128) o)
  match i with
  | 0 => exact e.1
  | 1 => exact e.2.1
  | 2 => exact e.2.2

include h in
/-- What the kernel leaves in its three results. -/
theorem kernel_value (ρ : Dev Cert.KernelIdeal.nD → PrngReg) (i : Fin 3) (b : Fin 8) (o : Fin 128) (n : Fin 1024) :
    (at3 (Cert.KernelIdeal.Run.W8 m ρ c (Proc.devRef .tc Cert.KernelIdeal.main_v55) : Vec Ideal Cert.KernelIdeal.S8x128x1024 .f32)
        (Cert.KernelIdeal.Run.W8 m ρ c (Proc.devRef .tc Cert.KernelIdeal.main_v57))
        (Cert.KernelIdeal.Run.W8 m ρ c (Proc.devRef .tc Cert.KernelIdeal.main_v59)) i)
        (ix3 (n0 := 8) (n1 := 128) (n2 := 1024) b o n)
      = Knn.refOut (fun b n (j : Fin (10 * 2 ^ i.val)) =>
          (Cert.ReferenceIdeal.Reading.redge (points m c) (weights m c i o) b n j.val : EReal))
          ((((10 * 2 ^ i.val : ℕ) : ℝ) * 8192 : ℝ) : EReal) (gam m c i o) (bet m c i o) b n :=
  Cert.KernelIdeal.Result.value m ρ c (points m c) (weights m c) (points_eq m h c) (weights_eq m h c) i b o n (factors_nonneg m h c i o)

include h in
theorem kernel_value10 (ρ : Dev Cert.KernelIdeal.nD → PrngReg) (b : Fin 8) (o : Fin 128) (n : Fin 1024) :
    (Cert.KernelIdeal.Run.W8 m ρ c (Proc.devRef .tc Cert.KernelIdeal.main_v55) : Vec Ideal Cert.KernelIdeal.S8x128x1024 .f32)
        (ix3 (n0 := 8) (n1 := 128) (n2 := 1024) b o n)
      = Knn.refOut (fun b n (j : Fin 10) => (Cert.ReferenceIdeal.Reading.redge (points m c) (weights m c 0 o) b n j.val : EReal))
          ((((10 : ℕ) : ℝ) * 8192 : ℝ) : EReal) (gam m c 0 o) (bet m c 0 o) b n :=
  kernel_value m h c ρ 0 b o n

include h in
theorem kernel_value20 (ρ : Dev Cert.KernelIdeal.nD → PrngReg) (b : Fin 8) (o : Fin 128) (n : Fin 1024) :
    (Cert.KernelIdeal.Run.W8 m ρ c (Proc.devRef .tc Cert.KernelIdeal.main_v57) : Vec Ideal Cert.KernelIdeal.S8x128x1024 .f32)
        (ix3 (n0 := 8) (n1 := 128) (n2 := 1024) b o n)
      = Knn.refOut (fun b n (j : Fin 20) => (Cert.ReferenceIdeal.Reading.redge (points m c) (weights m c 1 o) b n j.val : EReal))
          ((((20 : ℕ) : ℝ) * 8192 : ℝ) : EReal) (gam m c 1 o) (bet m c 1 o) b n :=
  kernel_value m h c ρ 1 b o n

include h in
theorem kernel_value40 (ρ : Dev Cert.KernelIdeal.nD → PrngReg) (b : Fin 8) (o : Fin 128) (n : Fin 1024) :
    (Cert.KernelIdeal.Run.W8 m ρ c (Proc.devRef .tc Cert.KernelIdeal.main_v59) : Vec Ideal Cert.KernelIdeal.S8x128x1024 .f32)
        (ix3 (n0 := 8) (n1 := 128) (n2 := 1024) b o n)
      = Knn.refOut (fun b n (j : Fin 40) => (Cert.ReferenceIdeal.Reading.redge (points m c) (weights m c 2 o) b n j.val : EReal))
          ((((40 : ℕ) : ℝ) * 8192 : ℝ) : EReal) (gam m c 2 o) (bet m c 2 o) b n :=
  kernel_value m h c ρ 2 b o n

end

/-- The kernel computes what the reference computes. -/
theorem value : Cert.algebraic_KernelIdeal_ReferenceIdeal_pre_tame (hPre_tame := Cert.Pre_tame.Meaning.facts) := by
  intro m g m' g' hpre hagree
  refine ⟨fun c => Cert.KernelIdeal.Run.W8 m g c (Proc.devRef .tc Cert.KernelIdeal.main_v55),
    fun c => Cert.KernelIdeal.Run.W8 m g c (Proc.devRef .tc Cert.KernelIdeal.main_v57),
    fun c => Cert.KernelIdeal.Run.W8 m g c (Proc.devRef .tc Cert.KernelIdeal.main_v59), ?_, ?_⟩
  · exact (θ_run Cert.KernelIdeal.defs _ _).mono
      (fun r k c => ⟨k.1 c _ (by decide), k.1 c _ (by decide), k.1 c _ (by decide),
        (k.1 c Cert.KernelIdeal.main_arg0 (by decide)).trans (Cert.KernelIdeal.Run.W8_main_arg0 m g c),
        (k.1 c Cert.KernelIdeal.main_arg1 (by decide)).trans (Cert.KernelIdeal.Run.W8_main_arg1 m g c),
        (k.1 c Cert.KernelIdeal.main_arg2 (by decide)).trans (Cert.KernelIdeal.Run.W8_main_arg2 m g c),
        (k.1 c Cert.KernelIdeal.main_arg3 (by decide)).trans (Cert.KernelIdeal.Run.W8_main_arg3 m g c),
        (k.1 c Cert.KernelIdeal.main_arg4 (by decide)).trans (Cert.KernelIdeal.Run.W8_main_arg4 m g c),
        (k.1 c Cert.KernelIdeal.main_arg5 (by decide)).trans (Cert.KernelIdeal.Run.W8_main_arg5 m g c),
        (k.1 c Cert.KernelIdeal.main_arg6 (by decide)).trans (Cert.KernelIdeal.Run.W8_main_arg6 m g c),
        (k.1 c Cert.KernelIdeal.main_arg7 (by decide)).trans (Cert.KernelIdeal.Run.W8_main_arg7 m g c),
        (k.1 c Cert.KernelIdeal.main_arg8 (by decide)).trans (Cert.KernelIdeal.Run.W8_main_arg8 m g c),
        (k.1 c Cert.KernelIdeal.main_arg9 (by decide)).trans (Cert.KernelIdeal.Run.W8_main_arg9 m g c)⟩)
      (Cert.KernelIdeal.Run.run m g)
  · refine (θ_run Cert.ReferenceIdeal.defs _ _).mono
      (fun r k c => ⟨(k c).1.trans ?_, (k c).2.1.trans ?_, (k c).2.2.1.trans ?_, (k c).2.2.2⟩) (Cert.ReferenceIdeal.Value.run m' g')
    all_goals
      obtain ⟨a0, a1, a2, a3, a4, a5, a6, a7, a8, a9⟩ := hagree c
      have hX : ∀ b k n, Cert.ReferenceIdeal.Reading.pt (StableHlo.launchContents m' c) b k n
          = (points m c b k n : EReal) := fun b k n => (congrFun a0 _).trans (points_eq m hpre c b k n)
    · exact Cert.ReferenceIdeal.Reading.array10 (StableHlo.launchContents m' c) (points m c) hX (weights m c 0) (Cert.KernelIdeal.Result.gam m c 0) (Cert.KernelIdeal.Result.bet m c 0) _
        (fun o k => (congrFun a1 _).trans (weights_eq m hpre c 0 o k)) (fun o => congrFun a4 _) (fun o => congrFun a7 _)
        (fun b o n => kernel_value10 m hpre c g b o n)
    · exact Cert.ReferenceIdeal.Reading.array20 (StableHlo.launchContents m' c) (points m c) hX (weights m c 1) (Cert.KernelIdeal.Result.gam m c 1) (Cert.KernelIdeal.Result.bet m c 1) _
        (fun o k => (congrFun a2 _).trans (weights_eq m hpre c 1 o k)) (fun o => congrFun a5 _) (fun o => congrFun a8 _)
        (fun b o n => kernel_value20 m hpre c g b o n)
    · exact Cert.ReferenceIdeal.Reading.array40 (StableHlo.launchContents m' c) (points m c) hX (weights m c 2) (Cert.KernelIdeal.Result.gam m c 2) (Cert.KernelIdeal.Result.bet m c 2) _
        (fun o k => (congrFun a3 _).trans (weights_eq m hpre c 2 o k)) (fun o => congrFun a6 _) (fun o => congrFun a9 _)
        (fun b o n => kernel_value40 m hpre c g b o n)

theorem claim : Cert.Claim :=
  ⟨Cert.Kernel.Gen.facts, Cert.KernelIdeal.Gen.facts, Cert.ReferenceIdeal.Gen.facts, Cert.Pre_tame.Meaning.facts,
    fun m ρ _ => Cert.Kernel.Run.frame m ρ, fun m ρ _ => Cert.KernelIdeal.Run.frame m ρ,
    fun m ρ _ => Cert.KernelIdeal.Run.frame m ρ, frame_reference, fun m ρ _ => frame_reference m ρ trivial, trivial, value⟩

end Cert.Proof

end
